-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dyn (m : (ℓ : Loc Cert.Dyn.nD Cert.Dyn.τ Cert.Dyn.sig) → Buf (Elt Bits) ℓ) : Prop :=
  True

def Pre_DynIdeal (m : (ℓ : Loc Cert.DynIdeal.nD Cert.DynIdeal.τ Cert.DynIdeal.sig) → Buf (Elt Ideal) ℓ) : Prop :=
  True

def Pre_DynIdeal_dy_finite [hPre_dy_finite : Cert.Pre_dy_finite.Facts] (m : (ℓ : Loc Cert.DynIdeal.nD Cert.DynIdeal.τ Cert.DynIdeal.sig) → Buf (Elt Ideal) ℓ) : Prop :=
  ∀ c : Dev Cert.DynIdeal.nD,
    (Cert.Pre_dy_finite.fn (F := Ideal) (m ((c.tc : Thread Cert.DynIdeal.nD Cert.DynIdeal.τ).loc Cert.DynIdeal.main_arg0)) (m ((c.tc : Thread Cert.DynIdeal.nD Cert.DynIdeal.τ).loc Cert.DynIdeal.main_arg1)) (m ((c.tc : Thread Cert.DynIdeal.nD Cert.DynIdeal.τ).loc Cert.DynIdeal.main_arg2))) = (fun _ => 1#1)

def Pre_DynRefIdeal (m : (ℓ : Loc Cert.DynRefIdeal.nD Cert.DynRefIdeal.τ Cert.DynRefIdeal.sig) → Buf (Elt Ideal) ℓ) : Prop :=
  True

def Pre_DynRefIdeal_dy_finite [hPre_dy_finite : Cert.Pre_dy_finite.Facts] (m : (ℓ : Loc Cert.DynRefIdeal.nD Cert.DynRefIdeal.τ Cert.DynRefIdeal.sig) → Buf (Elt Ideal) ℓ) : Prop :=
  ∀ c : Dev Cert.DynRefIdeal.nD,
    (Cert.Pre_dy_finite.fn (F := Ideal) (m ((c.tc : Thread Cert.DynRefIdeal.nD Cert.DynRefIdeal.τ).loc Cert.DynRefIdeal.main_arg0)) (m ((c.tc : Thread Cert.DynRefIdeal.nD Cert.DynRefIdeal.τ).loc Cert.DynRefIdeal.main_arg1)) (m ((c.tc : Thread Cert.DynRefIdeal.nD Cert.DynRefIdeal.τ).loc Cert.DynRefIdeal.main_arg2))) = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutIdeal_y_maxima [hPre_y_maxima : Cert.Pre_y_maxima.Facts] (m : (ℓ : Loc Cert.DwOutIdeal.nD Cert.DwOutIdeal.τ Cert.DwOutIdeal.sig) → Buf (Elt Ideal) ℓ) : Prop :=
  ∀ c : Dev Cert.DwOutIdeal.nD,
    (Cert.Pre_y_maxima.fn (F := Ideal) (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)) (m ((c.tc : Thread Cert.DwOutIdeal.nD Cert.DwOutIdeal.τ).loc Cert.DwOutIdeal.main_arg2))) = (fun _ => 1#1)

def Pre_DwOutRefIdeal (m : (ℓ : Loc Cert.DwOutRefIdeal.nD Cert.DwOutRefIdeal.τ Cert.DwOutRefIdeal.sig) → Buf (Elt Ideal) ℓ) : Prop :=
  True

def Pre_DwOutRefIdeal_y_maxima [hPre_y_maxima : Cert.Pre_y_maxima.Facts] (m : (ℓ : Loc Cert.DwOutRefIdeal.nD Cert.DwOutRefIdeal.τ Cert.DwOutRefIdeal.sig) → Buf (Elt Ideal) ℓ) : Prop :=
  ∀ c : Dev Cert.DwOutRefIdeal.nD,
    (Cert.Pre_y_maxima.fn (F := Ideal) (m ((c.tc : Thread Cert.DwOutRefIdeal.nD Cert.DwOutRefIdeal.τ).loc Cert.DwOutRefIdeal.main_arg0)) (m ((c.tc : Thread Cert.DwOutRefIdeal.nD Cert.DwOutRefIdeal.τ).loc Cert.DwOutRefIdeal.main_arg1)) (m ((c.tc : Thread Cert.DwOutRefIdeal.nD Cert.DwOutRefIdeal.τ).loc Cert.DwOutRefIdeal.main_arg2))) = (fun _ => 1#1)

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvIdeal_dp_maxima [hPre_dp_maxima : Cert.Pre_dp_maxima.Facts] (m : (ℓ : Loc Cert.DwQkvIdeal.nD Cert.DwQkvIdeal.τ Cert.DwQkvIdeal.sig) → Buf (Elt Ideal) ℓ) : Prop :=
  ∀ c : Dev Cert.DwQkvIdeal.nD,
    (Cert.Pre_dp_maxima.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3))) = (fun _ => 1#1)

def Pre_DwQkvRefIdeal (m : (ℓ : Loc Cert.DwQkvRefIdeal.nD Cert.DwQkvRefIdeal.τ Cert.DwQkvRefIdeal.sig) → Buf (Elt Ideal) ℓ) : Prop :=
  True

def Pre_DwQkvRefIdeal_dp_maxima [hPre_dp_maxima : Cert.Pre_dp_maxima.Facts] (m : (ℓ : Loc Cert.DwQkvRefIdeal.nD Cert.DwQkvRefIdeal.τ Cert.DwQkvRefIdeal.sig) → Buf (Elt Ideal) ℓ) : Prop :=
  ∀ c : Dev Cert.DwQkvRefIdeal.nD,
    (Cert.Pre_dp_maxima.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dyn [hDyn : Cert.Dyn.Facts] : Prop :=
  ∀ (m : (ℓ : Loc Cert.Dyn.nD Cert.Dyn.τ Cert.Dyn.sig) → Buf (Elt Bits) ℓ) (g : Dev Cert.Dyn.nD → PrngReg), Pre_Dyn m →
    θ_run (Cert.Dyn.defs (F := Bits)) (onTc (τ := Cert.Dyn.τ) (Cert.Dyn.main (F := Bits))) ⟨m, fun _ => 0, g⟩ (fun r => (∀ c : Dev Cert.Dyn.nD,
      r.2.mem ((c.tc : Thread Cert.Dyn.nD Cert.Dyn.τ).loc Cert.Dyn.main_arg0) = m ((c.tc : Thread Cert.Dyn.nD Cert.Dyn.τ).loc Cert.Dyn.main_arg0)
      ∧ r.2.mem ((c.tc : Thread Cert.Dyn.nD Cert.Dyn.τ).loc Cert.Dyn.main_arg1) = m ((c.tc : Thread Cert.Dyn.nD Cert.Dyn.τ).loc Cert.Dyn.main_arg1)
      ∧ r.2.mem ((c.tc : Thread Cert.Dyn.nD Cert.Dyn.τ).loc Cert.Dyn.main_arg2) = m ((c.tc : Thread Cert.Dyn.nD Cert.Dyn.τ).loc Cert.Dyn.main_arg2))
      ∧ r.2.sem = fun _ => 0)

def quiescent_DynIdeal [hDynIdeal : Cert.DynIdeal.Facts] : Prop :=
  ∀ (m : (ℓ : Loc Cert.DynIdeal.nD Cert.DynIdeal.τ Cert.DynIdeal.sig) → Buf (Elt Ideal) ℓ) (g : Dev Cert.DynIdeal.nD → PrngReg), Pre_DynIdeal m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynIdeal_pre_dy_finite [hDynIdeal : Cert.DynIdeal.Facts] [hPre_dy_finite : Cert.Pre_dy_finite.Facts] : Prop :=
  ∀ (m : (ℓ : Loc Cert.DynIdeal.nD Cert.DynIdeal.τ Cert.DynIdeal.sig) → Buf (Elt Ideal) ℓ) (g : Dev Cert.DynIdeal.nD → PrngReg), Pre_DynIdeal_dy_finite m →
    θ_run (Cert.DynIdeal.defs (F := Ideal)) (onTc (τ := Cert.DynIdeal.τ) (Cert.DynIdeal.main (F := Ideal))) ⟨m, fun _ => 0, g⟩ (fun r => (∀ c : Dev Cert.DynIdeal.nD,
      r.2.mem ((c.tc : Thread Cert.DynIdeal.nD Cert.DynIdeal.τ).loc Cert.DynIdeal.main_arg0) = m ((c.tc : Thread Cert.DynIdeal.nD Cert.DynIdeal.τ).loc Cert.DynIdeal.main_arg0)
      ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
      ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ r.2.sem = fun _ => 0)

def quiescent_DynRefIdeal [hDynRefIdeal : Cert.DynRefIdeal.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def quiescent_DynRefIdeal_pre_dy_finite [hDynRefIdeal : Cert.DynRefIdeal.Facts] [hPre_dy_finite : Cert.Pre_dy_finite.Facts] : Prop :=
  ∀ (m : (ℓ : Loc Cert.DynRefIdeal.nD Cert.DynRefIdeal.τ Cert.DynRefIdeal.sig) → Buf (Elt Ideal) ℓ) (g : Dev Cert.DynRefIdeal.nD → PrngReg), Pre_DynRefIdeal_dy_finite m →
    θ_run (Cert.DynRefIdeal.defs (F := Ideal)) (onTc (τ := Cert.DynRefIdeal.τ) (Cert.DynRefIdeal.main (F := Ideal))) ⟨m, fun _ => 0, g⟩ (fun r => (∀ c : Dev Cert.DynRefIdeal.nD,
      r.2.mem ((c.tc : Thread Cert.DynRefIdeal.nD Cert.DynRefIdeal.τ).loc Cert.DynRefIdeal.main_arg0) = m ((c.tc : Thread Cert.DynRefIdeal.nD Cert.DynRefIdeal.τ).loc Cert.DynRefIdeal.main_arg0)
      ∧ r.2.mem ((c.tc : Thread Cert.DynRefIdeal.nD Cert.DynRefIdeal.τ).loc Cert.DynRefIdeal.main_arg1) = m ((c.tc : Thread Cert.DynRefIdeal.nD Cert.DynRefIdeal.τ).loc Cert.DynRefIdeal.main_arg1)
      ∧ r.2.mem ((c.tc : Thread Cert.DynRefIdeal.nD Cert.DynRefIdeal.τ).loc Cert.DynRefIdeal.main_arg2) = m ((c.tc : Thread Cert.DynRefIdeal.nD Cert.DynRefIdeal.τ).loc Cert.DynRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutIdeal_pre_y_maxima [hDwOutIdeal : Cert.DwOutIdeal.Facts] [hPre_y_maxima : Cert.Pre_y_maxima.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal_y_maxima m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwOutRefIdeal_pre_y_maxima [hDwOutRefIdeal : Cert.DwOutRefIdeal.Facts] [hPre_y_maxima : Cert.Pre_y_maxima.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal_y_maxima m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ r.2.sem = fun _ => 0)

def quiescent_DwQkvIdeal_pre_dp_maxima [hDwQkvIdeal : Cert.DwQkvIdeal.Facts] [hPre_dp_maxima : Cert.Pre_dp_maxima.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal_dp_maxima m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3))
      ∧ r.2.sem = fun _ => 0)

def quiescent_DwQkvRefIdeal_pre_dp_maxima [hDwQkvRefIdeal : Cert.DwQkvRefIdeal.Facts] [hPre_dp_maxima : Cert.Pre_dp_maxima.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal_dp_maxima m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0_0) = v0 c
          ∧ r.2.mem ((c.tc : Thread Cert.DxRefIdeal.nD Cert.DxRefIdeal.τ).loc Cert.DxRefIdeal.main_v0_1) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dyn_DynIdeal : Prop :=
  True

def algebraic_DynIdeal_DynRefIdeal_pre_dy_finite [hDynIdeal : Cert.DynIdeal.Facts] [hDynRefIdeal : Cert.DynRefIdeal.Facts] [hPre_dy_finite : Cert.Pre_dy_finite.Facts] : Prop :=
  ∀ (m : (ℓ : Loc Cert.DynIdeal.nD Cert.DynIdeal.τ Cert.DynIdeal.sig) → Buf (Elt Ideal) ℓ) (g : Dev Cert.DynIdeal.nD → PrngReg)
    (m' : (ℓ : Loc Cert.DynRefIdeal.nD Cert.DynRefIdeal.τ Cert.DynRefIdeal.sig) → Buf (Elt Ideal) ℓ) (g' : Dev Cert.DynRefIdeal.nD → PrngReg), Pre_DynIdeal_dy_finite m →
    (∀ c : Dev Cert.DynIdeal.nD,
      m' ((c.tc : Thread Cert.DynRefIdeal.nD Cert.DynRefIdeal.τ).loc Cert.DynRefIdeal.main_arg0) = m ((c.tc : Thread Cert.DynIdeal.nD Cert.DynIdeal.τ).loc Cert.DynIdeal.main_arg0)
      ∧ m' ((c.tc : Thread Cert.DynRefIdeal.nD Cert.DynRefIdeal.τ).loc Cert.DynRefIdeal.main_arg1) = m ((c.tc : Thread Cert.DynIdeal.nD Cert.DynIdeal.τ).loc Cert.DynIdeal.main_arg1)
      ∧ m' ((c.tc : Thread Cert.DynRefIdeal.nD Cert.DynRefIdeal.τ).loc Cert.DynRefIdeal.main_arg2) = m ((c.tc : Thread Cert.DynIdeal.nD Cert.DynIdeal.τ).loc Cert.DynIdeal.main_arg2)) →
    ∃ (v0 : (c : Dev Cert.DynIdeal.nD) → Buf (Elt Ideal) ((c.tc : Thread Cert.DynIdeal.nD Cert.DynIdeal.τ).loc Cert.DynIdeal.main_v0_0)) (v1 : (c : Dev Cert.DynIdeal.nD) → Buf (Elt Ideal) ((c.tc : Thread Cert.DynIdeal.nD Cert.DynIdeal.τ).loc Cert.DynIdeal.main_v0_1)) (v2 : (c : Dev Cert.DynIdeal.nD) → Buf (Elt Ideal) ((c.tc : Thread Cert.DynIdeal.nD Cert.DynIdeal.τ).loc Cert.DynIdeal.main_v0_2)) (v3 : (c : Dev Cert.DynIdeal.nD) → Buf (Elt Ideal) ((c.tc : Thread Cert.DynIdeal.nD Cert.DynIdeal.τ).loc Cert.DynIdeal.main_v0_3)),
      θ_run (Cert.DynIdeal.defs (F := Ideal)) (onTc (τ := Cert.DynIdeal.τ) (Cert.DynIdeal.main (F := Ideal))) ⟨m, fun _ => 0, g⟩ (fun r => ∀ c : Dev Cert.DynIdeal.nD,
          r.2.mem ((c.tc : Thread Cert.DynIdeal.nD Cert.DynIdeal.τ).loc Cert.DynIdeal.main_v0_0) = v0 c
          ∧ r.2.mem ((c.tc : Thread Cert.DynIdeal.nD Cert.DynIdeal.τ).loc Cert.DynIdeal.main_v0_1) = v1 c
          ∧ r.2.mem ((c.tc : Thread Cert.DynIdeal.nD Cert.DynIdeal.τ).loc Cert.DynIdeal.main_v0_2) = v2 c
          ∧ r.2.mem ((c.tc : Thread Cert.DynIdeal.nD Cert.DynIdeal.τ).loc Cert.DynIdeal.main_v0_3) = v3 c
          ∧ r.2.mem ((c.tc : Thread Cert.DynIdeal.nD Cert.DynIdeal.τ).loc Cert.DynIdeal.main_arg0) = m ((c.tc : Thread Cert.DynIdeal.nD Cert.DynIdeal.τ).loc Cert.DynIdeal.main_arg0)
          ∧ r.2.mem ((c.tc : Thread Cert.DynIdeal.nD Cert.DynIdeal.τ).loc Cert.DynIdeal.main_arg1) = m ((c.tc : Thread Cert.DynIdeal.nD Cert.DynIdeal.τ).loc Cert.DynIdeal.main_arg1)
          ∧ r.2.mem ((c.tc : Thread Cert.DynIdeal.nD Cert.DynIdeal.τ).loc Cert.DynIdeal.main_arg2) = m ((c.tc : Thread Cert.DynIdeal.nD Cert.DynIdeal.τ).loc Cert.DynIdeal.main_arg2))
      ∧ θ_run (Cert.DynRefIdeal.defs (F := Ideal)) (onTc (τ := Cert.DynRefIdeal.τ) (Cert.DynRefIdeal.main (F := Ideal))) ⟨m', fun _ => 0, g'⟩ (fun r => ∀ c : Dev Cert.DynRefIdeal.nD,
          r.2.mem ((c.tc : Thread Cert.DynRefIdeal.nD Cert.DynRefIdeal.τ).loc Cert.DynRefIdeal.main_v0_0) = v0 c
          ∧ r.2.mem ((c.tc : Thread Cert.DynRefIdeal.nD Cert.DynRefIdeal.τ).loc Cert.DynRefIdeal.main_v0_1) = v1 c
          ∧ r.2.mem ((c.tc : Thread Cert.DynRefIdeal.nD Cert.DynRefIdeal.τ).loc Cert.DynRefIdeal.main_v0_2) = v2 c
          ∧ r.2.mem ((c.tc : Thread Cert.DynRefIdeal.nD Cert.DynRefIdeal.τ).loc Cert.DynRefIdeal.main_v0_3) = v3 c
          ∧ r.2.mem ((c.tc : Thread Cert.DynRefIdeal.nD Cert.DynRefIdeal.τ).loc Cert.DynRefIdeal.main_arg0) = m' ((c.tc : Thread Cert.DynRefIdeal.nD Cert.DynRefIdeal.τ).loc Cert.DynRefIdeal.main_arg0)
          ∧ r.2.mem ((c.tc : Thread Cert.DynRefIdeal.nD Cert.DynRefIdeal.τ).loc Cert.DynRefIdeal.main_arg1) = m' ((c.tc : Thread Cert.DynRefIdeal.nD Cert.DynRefIdeal.τ).loc Cert.DynRefIdeal.main_arg1)
          ∧ r.2.mem ((c.tc : Thread Cert.DynRefIdeal.nD Cert.DynRefIdeal.τ).loc Cert.DynRefIdeal.main_arg2) = m' ((c.tc : Thread Cert.DynRefIdeal.nD Cert.DynRefIdeal.τ).loc Cert.DynRefIdeal.main_arg2))

def preserves_DwOut_DwOutIdeal : Prop :=
  True

def algebraic_DwOutIdeal_DwOutRefIdeal_pre_y_maxima [hDwOutIdeal : Cert.DwOutIdeal.Facts] [hDwOutRefIdeal : Cert.DwOutRefIdeal.Facts] [hPre_y_maxima : Cert.Pre_y_maxima.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal_y_maxima m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0_0)) (v1 : (c : Dev Cert.DwOutIdeal.nD) → Buf (Elt Ideal) ((c.tc : Thread Cert.DwOutIdeal.nD Cert.DwOutIdeal.τ).loc Cert.DwOutIdeal.main_v0_1)) (v2 : (c : Dev Cert.DwOutIdeal.nD) → Buf (Elt Ideal) ((c.tc : Thread Cert.DwOutIdeal.nD Cert.DwOutIdeal.τ).loc Cert.DwOutIdeal.main_v0_2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0_0) = v0 c
          ∧ r.2.mem ((c.tc : Thread Cert.DwOutIdeal.nD Cert.DwOutIdeal.τ).loc Cert.DwOutIdeal.main_v0_1) = v1 c
          ∧ r.2.mem ((c.tc : Thread Cert.DwOutIdeal.nD Cert.DwOutIdeal.τ).loc Cert.DwOutIdeal.main_v0_2) = v2 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v0_0) = v0 c
          ∧ r.2.mem ((c.tc : Thread Cert.DwOutRefIdeal.nD Cert.DwOutRefIdeal.τ).loc Cert.DwOutRefIdeal.main_v0_1) = v1 c
          ∧ r.2.mem ((c.tc : Thread Cert.DwOutRefIdeal.nD Cert.DwOutRefIdeal.τ).loc Cert.DwOutRefIdeal.main_v0_2) = v2 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwQkv_DwQkvIdeal : Prop :=
  True

def algebraic_DwQkvIdeal_DwQkvRefIdeal_pre_dp_maxima [hDwQkvIdeal : Cert.DwQkvIdeal.Facts] [hDwQkvRefIdeal : Cert.DwQkvRefIdeal.Facts] [hPre_dp_maxima : Cert.Pre_dp_maxima.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal_dp_maxima m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)) →
    ∃ (v0 : (c : Dev Cert.DwQkvIdeal.nD) → Buf (Elt Ideal) ((c.tc : Thread Cert.DwQkvIdeal.nD Cert.DwQkvIdeal.τ).loc Cert.DwQkvIdeal.main_v0_0)) (v1 : (c : Dev Cert.DwQkvIdeal.nD) → Buf (Elt Ideal) ((c.tc : Thread Cert.DwQkvIdeal.nD Cert.DwQkvIdeal.τ).loc Cert.DwQkvIdeal.main_v0_1)) (v2 : (c : Dev Cert.DwQkvIdeal.nD) → Buf (Elt Ideal) ((c.tc : Thread Cert.DwQkvIdeal.nD Cert.DwQkvIdeal.τ).loc Cert.DwQkvIdeal.main_v0_2)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v0_0) = v0 c
          ∧ r.2.mem ((c.tc : Thread Cert.DwQkvIdeal.nD Cert.DwQkvIdeal.τ).loc Cert.DwQkvIdeal.main_v0_1) = v1 c
          ∧ r.2.mem ((c.tc : Thread Cert.DwQkvIdeal.nD Cert.DwQkvIdeal.τ).loc Cert.DwQkvIdeal.main_v0_2) = v2 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v0_0) = v0 c
          ∧ r.2.mem ((c.tc : Thread Cert.DwQkvRefIdeal.nD Cert.DwQkvRefIdeal.τ).loc Cert.DwQkvRefIdeal.main_v0_1) = v1 c
          ∧ r.2.mem ((c.tc : Thread Cert.DwQkvRefIdeal.nD Cert.DwQkvRefIdeal.τ).loc Cert.DwQkvRefIdeal.main_v0_2) = v2 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v32) = v0 c
          ∧ r.2.mem ((c.tc : Thread Cert.GatesRefIdeal.nD Cert.GatesRefIdeal.τ).loc Cert.GatesRefIdeal.main_v33) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def Claim : Prop :=
  ∃ (hDx : Cert.Dx.Facts) (hDxIdeal : Cert.DxIdeal.Facts) (hDxRefIdeal : Cert.DxRefIdeal.Facts) (hDyn : Cert.Dyn.Facts) (hDynIdeal : Cert.DynIdeal.Facts) (hDynRefIdeal : Cert.DynRefIdeal.Facts) (hDwOut : Cert.DwOut.Facts) (hDwOutIdeal : Cert.DwOutIdeal.Facts) (hDwOutRefIdeal : Cert.DwOutRefIdeal.Facts) (hDwQkv : Cert.DwQkv.Facts) (hDwQkvIdeal : Cert.DwQkvIdeal.Facts) (hDwQkvRefIdeal : Cert.DwQkvRefIdeal.Facts) (hGates : Cert.Gates.Facts) (hGatesIdeal : Cert.GatesIdeal.Facts) (hGatesRefIdeal : Cert.GatesRefIdeal.Facts) (hPre_dy_finite : Cert.Pre_dy_finite.Facts) (hPre_y_maxima : Cert.Pre_y_maxima.Facts) (hPre_dp_maxima : Cert.Pre_dp_maxima.Facts),
    quiescent_Dx (hDx := hDx)
    ∧ quiescent_DxIdeal (hDxIdeal := hDxIdeal)
    ∧ quiescent_DxRefIdeal (hDxRefIdeal := hDxRefIdeal)
    ∧ quiescent_Dyn (hDyn := hDyn)
    ∧ quiescent_DynIdeal (hDynIdeal := hDynIdeal)
    ∧ quiescent_DynIdeal_pre_dy_finite (hDynIdeal := hDynIdeal) (hPre_dy_finite := hPre_dy_finite)
    ∧ quiescent_DynRefIdeal (hDynRefIdeal := hDynRefIdeal)
    ∧ quiescent_DynRefIdeal_pre_dy_finite (hDynRefIdeal := hDynRefIdeal) (hPre_dy_finite := hPre_dy_finite)
    ∧ quiescent_DwOut (hDwOut := hDwOut)
    ∧ quiescent_DwOutIdeal (hDwOutIdeal := hDwOutIdeal)
    ∧ quiescent_DwOutIdeal_pre_y_maxima (hDwOutIdeal := hDwOutIdeal) (hPre_y_maxima := hPre_y_maxima)
    ∧ quiescent_DwOutRefIdeal (hDwOutRefIdeal := hDwOutRefIdeal)
    ∧ quiescent_DwOutRefIdeal_pre_y_maxima (hDwOutRefIdeal := hDwOutRefIdeal) (hPre_y_maxima := hPre_y_maxima)
    ∧ quiescent_DwQkv (hDwQkv := hDwQkv)
    ∧ quiescent_DwQkvIdeal (hDwQkvIdeal := hDwQkvIdeal)
    ∧ quiescent_DwQkvIdeal_pre_dp_maxima (hDwQkvIdeal := hDwQkvIdeal) (hPre_dp_maxima := hPre_dp_maxima)
    ∧ quiescent_DwQkvRefIdeal (hDwQkvRefIdeal := hDwQkvRefIdeal)
    ∧ quiescent_DwQkvRefIdeal_pre_dp_maxima (hDwQkvRefIdeal := hDwQkvRefIdeal) (hPre_dp_maxima := hPre_dp_maxima)
    ∧ quiescent_Gates (hGates := hGates)
    ∧ quiescent_GatesIdeal (hGatesIdeal := hGatesIdeal)
    ∧ quiescent_GatesRefIdeal (hGatesRefIdeal := hGatesRefIdeal)
    ∧ preserves_Dx_DxIdeal
    ∧ algebraic_DxIdeal_DxRefIdeal (hDxIdeal := hDxIdeal) (hDxRefIdeal := hDxRefIdeal)
    ∧ preserves_Dyn_DynIdeal
    ∧ algebraic_DynIdeal_DynRefIdeal_pre_dy_finite (hDynIdeal := hDynIdeal) (hDynRefIdeal := hDynRefIdeal) (hPre_dy_finite := hPre_dy_finite)
    ∧ preserves_DwOut_DwOutIdeal
    ∧ algebraic_DwOutIdeal_DwOutRefIdeal_pre_y_maxima (hDwOutIdeal := hDwOutIdeal) (hDwOutRefIdeal := hDwOutRefIdeal) (hPre_y_maxima := hPre_y_maxima)
    ∧ preserves_DwQkv_DwQkvIdeal
    ∧ algebraic_DwQkvIdeal_DwQkvRefIdeal_pre_dp_maxima (hDwQkvIdeal := hDwQkvIdeal) (hDwQkvRefIdeal := hDwQkvRefIdeal) (hPre_dp_maxima := hPre_dp_maxima)
    ∧ preserves_Gates_GatesIdeal
    ∧ algebraic_GatesIdeal_GatesRefIdeal (hGatesIdeal := hGatesIdeal) (hGatesRefIdeal := hGatesRefIdeal)
-- ==== Pre_dp_maxima.lean ====
abbrev S5120x6144 : Shape := ⟨2, ![5120, 6144]⟩
abbrev S8x6144 : Shape := ⟨2, ![8, 6144]⟩
abbrev S5120x2048 : Shape := ⟨2, ![5120, 2048]⟩
abbrev S5120x1 : Shape := ⟨2, ![5120, 1]⟩
abbrev S_ : Shape := ⟨0, ![]⟩
abbrev S6144 : Shape := ⟨1, ![6144]⟩

class Facts : Prop where
  reducesTo_S8x6144_S6144_d0 : S8x6144.ReducesTo [0] S6144
  h_S_ : 0 < S_.numel
  reducesTo_S5120x6144_S6144_d0 : S5120x6144.ReducesTo [0] S6144

variable [Facts]

def fn {F : FTy → Type} [FloatOps F] (main_arg0 : FVec F S5120x6144 .f32) (main_arg1 : FVec F S8x6144 .f32) (main_arg2 : FVec F S5120x2048 .fp8e4m3) (main_arg3 : FVec F S5120x1 .f32) : IVec S6144 1 :=
  let main_cst : FVec F S_ .f32 := constant S_ .f32 0xFF800000#32
  let main_v0 : FVec F S6144 .f32 := (fun x v => Host.reduce FloatOps.maximumf x v reducesTo_S8x6144_S6144_d0 h_S_) main_arg1 main_cst
  let main_v1 : FVec F S5120x6144 .f32 := Host.absf main_arg0
  let main_cst_0 : FVec F S_ .f32 := constant S_ .f32 0xFF800000#32
  let main_v2 : FVec F S6144 .f32 := (fun x v => Host.reduce FloatOps.maximumf x v reducesTo_S5120x6144_S6144_d0 h_S_) main_v1 main_cst_0
  let main_v3 : IVec S6144 1 := cmpf .oeq main_v0 main_v2
  main_v3
-- ==== Pre_dy_finite.lean ====
abbrev S5120x2048 : Shape := ⟨2, ![5120, 2048]⟩
abbrev S4096x2048 : Shape := ⟨2, ![4096, 2048]⟩
abbrev S1x1 : Shape := ⟨2, ![1, 1]⟩
abbrev S_ : Shape := ⟨0, ![]⟩

class Facts : Prop where
  bitsLt_bf16_f32 : FTy.bits .bf16 < FTy.bits .f32
  bcast_S_S5120x2048 : S_.BroadcastsInDim S5120x2048 (![] : Fin 0 → Fin S5120x2048.rank)

variable [Facts]

def fn {F : FTy → Type} [FloatOps F] (main_arg0 : FVec F S5120x2048 .bf16) (main_arg1 : FVec F S4096x2048 .fp8e4m3) (main_arg2 : FVec F S1x1 .f32) : IVec S5120x2048 1 :=
  let main_v0 : FVec F S5120x2048 .f32 := (extf .f32 · bitsLt_bf16_f32) main_arg0
  let main_v1 : FVec F S5120x2048 .f32 := Host.absf main_v0
  let main_cst : FVec F S_ .f32 := constant S_ .f32 0x7F7F0000#32
  let main_v2 : FVec F S5120x2048 .f32 := broadcastInDim S5120x2048 ![] bcast_S_S5120x2048 main_cst
  let main_v3 : IVec S5120x2048 1 := cmpf .ole main_v1 main_v2
  main_v3
-- ==== Pre_y_maxima.lean ====
abbrev S5120x4096 : Shape := ⟨2, ![5120, 4096]⟩
abbrev S8x4096 : Shape := ⟨2, ![8, 4096]⟩
abbrev S5120x2048 : Shape := ⟨2, ![5120, 2048]⟩
abbrev S_ : Shape := ⟨0, ![]⟩
abbrev S4096 : Shape := ⟨1, ![4096]⟩

class Facts : Prop where
  reducesTo_S8x4096_S4096_d0 : S8x4096.ReducesTo [0] S4096
  h_S_ : 0 < S_.numel
  reducesTo_S5120x4096_S4096_d0 : S5120x4096.ReducesTo [0] S4096

variable [Facts]

def fn {F : FTy → Type} [FloatOps F] (main_arg0 : FVec F S5120x4096 .f32) (main_arg1 : FVec F S8x4096 .f32) (main_arg2 : FVec F S5120x2048 .bf16) : IVec S4096 1 :=
  let main_cst : FVec F S_ .f32 := constant S_ .f32 0xFF800000#32
  let main_v0 : FVec F S4096 .f32 := (fun x v => Host.reduce FloatOps.maximumf x v reducesTo_S8x4096_S4096_d0 h_S_) main_arg1 main_cst
  let main_v1 : FVec F S5120x4096 .f32 := Host.absf main_arg0
  let main_cst_0 : FVec F S_ .f32 := constant S_ .f32 0xFF800000#32
  let main_v2 : FVec F S4096 .f32 := (fun x v => Host.reduce FloatOps.maximumf x v reducesTo_S5120x4096_S4096_d0 h_S_) main_v1 main_cst_0
  let main_v3 : IVec S4096 1 := cmpf .oeq main_v0 main_v2
  main_v3
-- ==== Dx.lean ====
abbrev S5120x6144 : Shape := ⟨2, ![5120, 6144]⟩
abbrev S5120x1 : Shape := ⟨2, ![5120, 1]⟩
abbrev S2048x6144 : Shape := ⟨2, ![2048, 6144]⟩
abbrev S1x1 : Shape := ⟨2, ![1, 1]⟩
abbrev S5120x2048 : Shape := ⟨2, ![5120, 2048]⟩
abbrev S512x6144 : Shape := ⟨2, ![512, 6144]⟩
abbrev S512x1 : Shape := ⟨2, ![512, 1]⟩
abbrev S512x2048 : Shape := ⟨2, ![512, 2048]⟩

abbrev nBuf : Space → Nat
  | .hbm => 6
  | .vmem => 9
  | .smem => 1
  | _ => 0

abbrev bufTy : (tb : Table) → Fin (tcTables nBuf tb) → BufTy
  | .hbm, ⟨0, _⟩ => ⟨S5120x6144, .fp8e5m2⟩
  | .hbm, ⟨1, _⟩ => ⟨S5120x1, .f32⟩
  | .hbm, ⟨2, _⟩ => ⟨S2048x6144, .fp8e4m3⟩
  | .hbm, ⟨3, _⟩ => ⟨S1x1, .f32⟩
  | .hbm, ⟨4, _⟩ => ⟨S5120x2048, .f32⟩
  | .hbm, ⟨5, _⟩ => ⟨S5120x2048, .bf16⟩
  | .local _ .vmem, ⟨0, _⟩ => ⟨S512x6144, .fp8e5m2⟩
  | .local _ .vmem, ⟨1, _⟩ => ⟨S512x6144, .fp8e5m2⟩
  | .local _ .vmem, ⟨2, _⟩ => ⟨S512x1, .f32⟩
  | .local _ .vmem, ⟨3, _⟩ => ⟨S512x1, .f32⟩
  | .local _ .vmem, ⟨4, _⟩ => ⟨S2048x6144, .fp8e4m3⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .smem, ⟨0, _⟩ => ⟨S1x1, .f32⟩
  | _, _ => ⟨S5120x6144, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DxRefIdeal.lean ====
abbrev S5120x6144 : Shape := ⟨2, ![5120, 6144]⟩
abbrev S5120x1 : Shape := ⟨2, ![5120, 1]⟩
abbrev S2048x6144 : Shape := ⟨2, ![2048, 6144]⟩
abbrev S1x1 : Shape := ⟨2, ![1, 1]⟩
abbrev S5120x2048 : Shape := ⟨2, ![5120, 2048]⟩

abbrev nBuf : Space → Nat
  | .hbm => 6
  | .vmem => 6
  | .smem => 0
  | _ => 0

abbrev bufTy : (tb : Table) → Fin (tcTables nBuf tb) → BufTy
  | .hbm, ⟨0, _⟩ => ⟨S5120x6144, .fp8e5m2⟩
  | .hbm, ⟨1, _⟩ => ⟨S5120x1, .f32⟩
  | .hbm, ⟨2, _⟩ => ⟨S2048x6144, .fp8e4m3⟩
  | .hbm, ⟨3, _⟩ => ⟨S1x1, .f32⟩
  | .hbm, ⟨4, _⟩ => ⟨S5120x2048, .f32⟩
  | .hbm, ⟨5, _⟩ => ⟨S5120x2048, .bf16⟩
  | .local _ .vmem, ⟨0, _⟩ => ⟨S5120x6144, .fp8e5m2⟩
  | .local _ .vmem, ⟨1, _⟩ => ⟨S5120x1, .f32⟩
  | .local _ .vmem, ⟨2, _⟩ => ⟨S2048x6144, .fp8e4m3⟩
  | .local _ .vmem, ⟨3, _⟩ => ⟨S1x1, .f32⟩
  | .local _ .vmem, ⟨4, _⟩ => ⟨S5120x2048, .f32⟩
  | .local _ .vmem, ⟨5, _⟩ => ⟨S5120x2048, .bf16⟩
  | _, _ => ⟨S5120x6144, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5120x6144 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dyn.lean ====
abbrev S5120x2048 : Shape := ⟨2, ![5120, 2048]⟩
abbrev S4096x2048 : Shape := ⟨2, ![4096, 2048]⟩
abbrev S1x1 : Shape := ⟨2, ![1, 1]⟩
abbrev S5120x4096 : Shape := ⟨2, ![5120, 4096]⟩
abbrev S5120x1 : Shape := ⟨2, ![5120, 1]⟩
abbrev S512x2048 : Shape := ⟨2, ![512, 2048]⟩
abbrev S512x4096 : Shape := ⟨2, ![512, 4096]⟩
abbrev S512x1 : Shape := ⟨2, ![512, 1]⟩
abbrev S512 : Shape := ⟨1, ![512]⟩
abbrev S512x256 : Shape := ⟨2, ![512, 256]⟩

abbrev nBuf : Space → Nat
  | .hbm => 7
  | .vmem => 11
  | .smem => 1
  | _ => 0

abbrev bufTy : (tb : Table) → Fin (tcTables nBuf tb) → BufTy
  | .hbm, ⟨0, _⟩ => ⟨S5120x2048, .bf16⟩
  | .hbm, ⟨1, _⟩ => ⟨S4096x2048, .fp8e4m3⟩
  | .hbm, ⟨2, _⟩ => ⟨S1x1, .f32⟩
  | .hbm, ⟨3, _⟩ => ⟨S5120x4096, .f32⟩
  | .hbm, ⟨4, _⟩ => ⟨S5120x2048, .fp8e5m2⟩
  | .hbm, ⟨5, _⟩ => ⟨S5120x1, .f32⟩
  | .hbm, ⟨6, _⟩ => ⟨S5120x2048, .bf16⟩
  | .local _ .vmem, ⟨0, _⟩ => ⟨S512x2048, .bf16⟩
  | .local _ .vmem, ⟨1, _⟩ => ⟨S512x2048, .bf16⟩
  | .local _ .vmem, ⟨2, _⟩ => ⟨S4096x2048, .fp8e4m3⟩
  | .local _ .vmem, ⟨3, _⟩ => ⟨S512x4096, .f32⟩
  | .local _ .vmem, ⟨4, _⟩ => ⟨S512x4096, .f32⟩
  | .local _ .vmem, ⟨5, _⟩ => ⟨S512x2048, .fp8e5m2⟩
  | .local _ .vmem, ⟨6, _⟩ => ⟨S512x2048, .fp8e5m2⟩
  | .local _ .vmem, ⟨7, _⟩ => ⟨S512x1, .f32⟩
  | .local _ .vmem, ⟨8, _⟩ => ⟨S512x1, .f32⟩
  | .local _ .vmem, ⟨9, _⟩ => ⟨S512x2048, .bf16⟩
  | .local _ .vmem, ⟨10, _⟩ => ⟨S512x2048, .bf16⟩
  | .local _ .smem, ⟨0, _⟩ => ⟨S1x1, .f32⟩
  | _, _ => ⟨S5120x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DynRefIdeal.lean ====
abbrev S5120x2048 : Shape := ⟨2, ![5120, 2048]⟩
abbrev S4096x2048 : Shape := ⟨2, ![4096, 2048]⟩
abbrev S1x1 : Shape := ⟨2, ![1, 1]⟩
abbrev S5120x4096 : Shape := ⟨2, ![5120, 4096]⟩
abbrev S5120x1 : Shape := ⟨2, ![5120, 1]⟩
abbrev S5120 : Shape := ⟨1, ![5120]⟩
abbrev S5120x256 : Shape := ⟨2, ![5120, 256]⟩

abbrev nBuf : Space → Nat
  | .hbm => 7
  | .vmem => 7
  | .smem => 0
  | _ => 0

abbrev bufTy : (tb : Table) → Fin (tcTables nBuf tb) → BufTy
  | .hbm, ⟨0, _⟩ => ⟨S5120x2048, .bf16⟩
  | .hbm, ⟨1, _⟩ => ⟨S4096x2048, .fp8e4m3⟩
  | .hbm, ⟨2, _⟩ => ⟨S1x1, .f32⟩
  | .hbm, ⟨3, _⟩ => ⟨S5120x4096, .f32⟩
  | .hbm, ⟨4, _⟩ => ⟨S5120x2048, .fp8e5m2⟩
  | .hbm, ⟨5, _⟩ => ⟨S5120x1, .f32⟩
  | .hbm, ⟨6, _⟩ => ⟨S5120x2048, .bf16⟩
  | .local _ .vmem, ⟨0, _⟩ => ⟨S5120x2048, .bf16⟩
  | .local _ .vmem, ⟨1, _⟩ => ⟨S4096x2048, .fp8e4m3⟩
  | .local _ .vmem, ⟨2, _⟩ => ⟨S1x1, .f32⟩
  | .local _ .vmem, ⟨3, _⟩ => ⟨S5120x4096, .f32⟩
  | .local _ .vmem, ⟨4, _⟩ => ⟨S5120x2048, .fp8e5m2⟩
  | .local _ .vmem, ⟨5, _⟩ => ⟨S5120x1, .f32⟩
  | .local _ .vmem, ⟨6, _⟩ => ⟨S5120x2048, .bf16⟩
  | _, _ => ⟨S5120x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5120x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x2048 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DwOut.lean ====
abbrev S5120x4096 : Shape := ⟨2, ![5120, 4096]⟩
abbrev S8x4096 : Shape := ⟨2, ![8, 4096]⟩
abbrev S5120x2048 : Shape := ⟨2, ![5120, 2048]⟩
abbrev S4096x2048 : Shape := ⟨2, ![4096, 2048]⟩
abbrev S1x4096 : Shape := ⟨2, ![1, 4096]⟩
abbrev S5120x256 : Shape := ⟨2, ![5120, 256]⟩
abbrev S8x256 : Shape := ⟨2, ![8, 256]⟩
abbrev S256x2048 : Shape := ⟨2, ![256, 2048]⟩
abbrev S1x256 : Shape := ⟨2, ![1, 256]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S5120x4096, .f32⟩
  | .hbm, ⟨1, _⟩ => ⟨S8x4096, .f32⟩
  | .hbm, ⟨2, _⟩ => ⟨S5120x2048, .bf16⟩
  | .hbm, ⟨3, _⟩ => ⟨S4096x2048, .f32⟩
  | .hbm, ⟨4, _⟩ => ⟨S5120x4096, .fp8e4m3⟩
  | .hbm, ⟨5, _⟩ => ⟨S1x4096, .f32⟩
  | .local _ .vmem, ⟨0, _⟩ => ⟨S5120x256, .f32⟩
  | .local _ .vmem, ⟨1, _⟩ => ⟨S5120x256, .f32⟩
  | .local _ .vmem, ⟨2, _⟩ => ⟨S8x256, .f32⟩
  | .local _ .vmem, ⟨3, _⟩ => ⟨S8x256, .f32⟩
  | .local _ .vmem, ⟨4, _⟩ => ⟨S5120x2048, .bf16⟩
  | .local _ .vmem, ⟨5, _⟩ => ⟨S256x2048, .f32⟩
  | .local _ .vmem, ⟨6, _⟩ => ⟨S256x2048, .f32⟩
  | .local _ .vmem, ⟨7, _⟩ => ⟨S5120x256, .fp8e4m3⟩
  | .local _ .vmem, ⟨8, _⟩ => ⟨S5120x256, .fp8e4m3⟩
  | .local _ .vmem, ⟨9, _⟩ => ⟨S1x256, .f32⟩
  | .local _ .vmem, ⟨10, _⟩ => ⟨S1x256, .f32⟩
  | _, _ => ⟨S5120x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5120x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5120x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DwOutRefIdeal.lean ====
abbrev S5120x4096 : Shape := ⟨2, ![5120, 4096]⟩
abbrev S8x4096 : Shape := ⟨2, ![8, 4096]⟩
abbrev S5120x2048 : Shape := ⟨2, ![5120, 2048]⟩
abbrev S4096x2048 : Shape := ⟨2, ![4096, 2048]⟩
abbrev S1x4096 : Shape := ⟨2, ![1, 4096]⟩
abbrev S4096 : Shape := ⟨1, ![4096]⟩
abbrev S4096x1 : Shape := ⟨2, ![4096, 1]⟩

abbrev nBuf : Space → Nat
  | .hbm => 6
  | .vmem => 5
  | .smem => 0
  | _ => 0

abbrev bufTy : (tb : Table) → Fin (tcTables nBuf tb) → BufTy
  | .hbm, ⟨0, _⟩ => ⟨S5120x4096, .f32⟩
  | .hbm, ⟨1, _⟩ => ⟨S8x4096, .f32⟩
  | .hbm, ⟨2, _⟩ => ⟨S5120x2048, .bf16⟩
  | .hbm, ⟨3, _⟩ => ⟨S4096x2048, .f32⟩
  | .hbm, ⟨4, _⟩ => ⟨S5120x4096, .fp8e4m3⟩
  | .hbm, ⟨5, _⟩ => ⟨S1x4096, .f32⟩
  | .local _ .vmem, ⟨0, _⟩ => ⟨S5120x4096, .f32⟩
  | .local _ .vmem, ⟨1, _⟩ => ⟨S5120x2048, .bf16⟩
  | .local _ .vmem, ⟨2, _⟩ => ⟨S4096x2048, .f32⟩
  | .local _ .vmem, ⟨3, _⟩ => ⟨S5120x4096, .fp8e4m3⟩
  | .local _ .vmem, ⟨4, _⟩ => ⟨S1x4096, .f32⟩
  | _, _ => ⟨S5120x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S5120x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwQkv.lean ====
abbrev S5120x6144 : Shape := ⟨2, ![5120, 6144]⟩
abbrev S8x6144 : Shape := ⟨2, ![8, 6144]⟩
abbrev S5120x2048 : Shape := ⟨2, ![5120, 2048]⟩
abbrev S5120x1 : Shape := ⟨2, ![5120, 1]⟩
abbrev S2048x6144 : Shape := ⟨2, ![2048, 6144]⟩
abbrev S1x6144 : Shape := ⟨2, ![1, 6144]⟩
abbrev S5120x256 : Shape := ⟨2, ![5120, 256]⟩
abbrev S8x256 : Shape := ⟨2, ![8, 256]⟩
abbrev S2048x256 : Shape := ⟨2, ![2048, 256]⟩
abbrev S1x256 : Shape := ⟨2, ![1, 256]⟩
abbrev S256 : Shape := ⟨1, ![256]⟩
abbrev S256x2048 : Shape := ⟨2, ![256, 2048]⟩

abbrev nBuf : Space → Nat
  | .hbm => 7
  | .vmem => 13
  | .smem => 0
  | _ => 0

abbrev bufTy : (tb : Table) → Fin (tcTables nBuf tb) → BufTy
  | .hbm, ⟨0, _⟩ => ⟨S5120x6144, .f32⟩
  | .hbm, ⟨1, _⟩ => ⟨S8x6144, .f32⟩
  | .hbm, ⟨2, _⟩ => ⟨S5120x2048, .fp8e4m3⟩
  | .hbm, ⟨3, _⟩ => ⟨S5120x1, .f32⟩
  | .hbm, ⟨4, _⟩ => ⟨S2048x6144, .f32⟩
  | .hbm, ⟨5, _⟩ => ⟨S5120x6144, .fp8e5m2⟩
  | .hbm, ⟨6, _⟩ => ⟨S1x6144, .f32⟩
  | .local _ .vmem, ⟨0, _⟩ => ⟨S5120x256, .f32⟩
  | .local _ .vmem, ⟨1, _⟩ => ⟨S5120x256, .f32⟩
  | .local _ .vmem, ⟨2, _⟩ => ⟨S8x256, .f32⟩
  | .local _ .vmem, ⟨3, _⟩ => ⟨S8x256, .f32⟩
  | .local _ .vmem, ⟨4, _⟩ => ⟨S5120x2048, .fp8e4m3⟩
  | .local _ .vmem, ⟨5, _⟩ => ⟨S5120x1, .f32⟩
  | .local _ .vmem, ⟨6, _⟩ => ⟨S2048x256, .f32⟩
  | .local _ .vmem, ⟨7, _⟩ => ⟨S2048x256, .f32⟩
  | .local _ .vmem, ⟨8, _⟩ => ⟨S5120x256, .fp8e5m2⟩
  | .local _ .vmem, ⟨9, _⟩ => ⟨S5120x256, .fp8e5m2⟩
  | .local _ .vmem, ⟨10, _⟩ => ⟨S1x256, .f32⟩
  | .local _ .vmem, ⟨11, _⟩ => ⟨S1x256, .f32⟩
  | .local _ .vmem, ⟨12, _⟩ => ⟨S5120x2048, .bf16⟩
  | _, _ => ⟨S5120x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5120x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5120x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5120x256 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwQkvRefIdeal.lean ====
abbrev S5120x6144 : Shape := ⟨2, ![5120, 6144]⟩
abbrev S8x6144 : Shape := ⟨2, ![8, 6144]⟩
abbrev S5120x2048 : Shape := ⟨2, ![5120, 2048]⟩
abbrev S5120x1 : Shape := ⟨2, ![5120, 1]⟩
abbrev S2048x6144 : Shape := ⟨2, ![2048, 6144]⟩
abbrev S1x6144 : Shape := ⟨2, ![1, 6144]⟩
abbrev S6144 : Shape := ⟨1, ![6144]⟩

abbrev nBuf : Space → Nat
  | .hbm => 7
  | .vmem => 6
  | .smem => 0
  | _ => 0

abbrev bufTy : (tb : Table) → Fin (tcTables nBuf tb) → BufTy
  | .hbm, ⟨0, _⟩ => ⟨S5120x6144, .f32⟩
  | .hbm, ⟨1, _⟩ => ⟨S8x6144, .f32⟩
  | .hbm, ⟨2, _⟩ => ⟨S5120x2048, .fp8e4m3⟩
  | .hbm, ⟨3, _⟩ => ⟨S5120x1, .f32⟩
  | .hbm, ⟨4, _⟩ => ⟨S2048x6144, .f32⟩
  | .hbm, ⟨5, _⟩ => ⟨S5120x6144, .fp8e5m2⟩
  | .hbm, ⟨6, _⟩ => ⟨S1x6144, .f32⟩
  | .local _ .vmem, ⟨0, _⟩ => ⟨S5120x6144, .f32⟩
  | .local _ .vmem, ⟨1, _⟩ => ⟨S5120x2048, .fp8e4m3⟩
  | .local _ .vmem, ⟨2, _⟩ => ⟨S5120x1, .f32⟩
  | .local _ .vmem, ⟨3, _⟩ => ⟨S2048x6144, .f32⟩
  | .local _ .vmem, ⟨4, _⟩ => ⟨S5120x6144, .fp8e5m2⟩
  | .local _ .vmem, ⟨5, _⟩ => ⟨S1x6144, .f32⟩
  | _, _ => ⟨S5120x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5120x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x6144 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Gates.lean ====
abbrev S80x8x128 : Shape := ⟨3, ![80, 8, 128]⟩
abbrev S8x128 : Shape := ⟨2, ![8, 128]⟩
abbrev S80x128x128 : Shape := ⟨3, ![80, 128, 128]⟩
abbrev S8x8x128 : Shape := ⟨3, ![8, 8, 128]⟩
abbrev S8x128x128 : Shape := ⟨3, ![8, 128, 128]⟩
abbrev S128x128 : Shape := ⟨2, ![128, 128]⟩
abbrev S1x8x128 : Shape := ⟨3, ![1, 8, 128]⟩
abbrev S56x128 : Shape := ⟨2, ![56, 128]⟩
abbrev S1x128x128 : Shape := ⟨3, ![1, 128, 128]⟩

abbrev nBuf : Space → Nat
  | .hbm => 7
  | .vmem => 12
  | .smem => 0
  | _ => 0

abbrev bufTy : (tb : Table) → Fin (tcTables nBuf tb) → BufTy
  | .hbm, ⟨0, _⟩ => ⟨S80x8x128, .f32⟩
  | .hbm, ⟨1, _⟩ => ⟨S80x8x128, .f32⟩
  | .hbm, ⟨2, _⟩ => ⟨S8x128, .f32⟩
  | .hbm, ⟨3, _⟩ => ⟨S8x128, .f32⟩
  | .hbm, ⟨4, _⟩ => ⟨S80x8x128, .f32⟩
  | .hbm, ⟨5, _⟩ => ⟨S80x128x128, .f32⟩
  | .hbm, ⟨6, _⟩ => ⟨S80x8x128, .f32⟩
  | .local _ .vmem, ⟨0, _⟩ => ⟨S8x8x128, .f32⟩
  | .local _ .vmem, ⟨1, _⟩ => ⟨S8x8x128, .f32⟩
  | .local _ .vmem, ⟨2, _⟩ => ⟨S8x8x128, .f32⟩
  | .local _ .vmem, ⟨3, _⟩ => ⟨S8x8x128, .f32⟩
  | .local _ .vmem, ⟨4, _⟩ => ⟨S8x128, .f32⟩
  | .local _ .vmem, ⟨5, _⟩ => ⟨S8x128, .f32⟩
  | .local _ .vmem, ⟨6, _⟩ => ⟨S8x8x128, .f32⟩
  | .local _ .vmem, ⟨7, _⟩ => ⟨S8x8x128, .f32⟩
  | .local _ .vmem, ⟨8, _⟩ => ⟨S8x128x128, .f32⟩
  | .local _ .vmem, ⟨9, _⟩ => ⟨S8x128x128, .f32⟩
  | .local _ .vmem, ⟨10, _⟩ => ⟨S8x8x128, .f32⟩
  | .local _ .vmem, ⟨11, _⟩ => ⟨S8x8x128, .f32⟩
  | _, _ => ⟨S80x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatesRefIdeal.lean ====
abbrev S80x8x128 : Shape := ⟨3, ![80, 8, 128]⟩
abbrev S8x128 : Shape := ⟨2, ![8, 128]⟩
abbrev S_ : Shape := ⟨0, ![]⟩
abbrev S1x8x128 : Shape := ⟨3, ![1, 8, 128]⟩
abbrev S80x8x2x64 : Shape := ⟨4, ![80, 8, 2, 64]⟩
abbrev S80x8x2x1 : Shape := ⟨4, ![80, 8, 2, 1]⟩
abbrev S80x72x128 : Shape := ⟨3, ![80, 72, 128]⟩
abbrev S80x128x128 : Shape := ⟨3, ![80, 128, 128]⟩

abbrev nBuf : Space → Nat
  | .hbm => 58
  | .vmem => 0
  | .smem => 0
  | _ => 0

abbrev bufTy : (tb : Table) → Fin (tcTables nBuf tb) → BufTy
  | .hbm, ⟨0, _⟩ => ⟨S80x8x128, .f32⟩
  | .hbm, ⟨1, _⟩ => ⟨S80x8x128, .f32⟩
  | .hbm, ⟨2, _⟩ => ⟨S8x128, .f32⟩
  | .hbm, ⟨3, _⟩ => ⟨S8x128, .f32⟩
  | .hbm, ⟨4, _⟩ => ⟨S80x8x128, .f32⟩
  | .hbm, ⟨5, _⟩ => ⟨S80x8x128, .f32⟩
  | .hbm, ⟨6, _⟩ => ⟨S80x8x128, .f32⟩
  | .hbm, ⟨7, _⟩ => ⟨S_, .f32⟩
  | .hbm, ⟨8, _⟩ => ⟨S80x8x128, .f32⟩
  | .hbm, ⟨9, _⟩ => ⟨S80x8x128, .f32⟩
  | .hbm, ⟨10, _⟩ => ⟨S_, .f32⟩
  | .hbm, ⟨11, _⟩ => ⟨S80x8x128, .f32⟩
  | .hbm, ⟨12, _⟩ => ⟨S80x8x128, .f32⟩
  | .hbm, ⟨13, _⟩ => ⟨S8x128, .f32⟩
  | .hbm, ⟨14, _⟩ => ⟨S8x128, .f32⟩
  | .hbm, ⟨15, _⟩ => ⟨S1x8x128, .f32⟩
  | .hbm, ⟨16, _⟩ => ⟨S80x8x128, .f32⟩
  | .hbm, ⟨17, _⟩ => ⟨S80x8x128, .f32⟩
  | .hbm, ⟨18, _⟩ => ⟨S_, .f32⟩
  | .hbm, ⟨19, _⟩ => ⟨S80x8x128, .f32⟩
  | .hbm, ⟨20, _⟩ => ⟨S80x8x128, .f32⟩
  | .hbm, ⟨21, _⟩ => ⟨S80x8x128, .f32⟩
  | .hbm, ⟨22, _⟩ => ⟨S80x8x128, .f32⟩
  | .hbm, ⟨23, _⟩ => ⟨S80x8x128, .i1⟩
  | .hbm, ⟨24, _⟩ => ⟨S80x8x128, .f32⟩
  | .hbm, ⟨25, _⟩ => ⟨S80x8x128, .f32⟩
  | .hbm, ⟨26, _⟩ => ⟨S80x8x128, .f32⟩
  | .hbm, ⟨27, _⟩ => ⟨S80x8x128, .f32⟩
  | .hbm, ⟨28, _⟩ => ⟨S80x8x128, .f32⟩
  | .hbm, ⟨29, _⟩ => ⟨S80x8x128, .f32⟩
  | .hbm, ⟨30, _⟩ => ⟨S80x8x128, .f32⟩
  | .hbm, ⟨31, _⟩ => ⟨S80x8x128, .f32⟩
  | .hbm, ⟨32, _⟩ => ⟨S1x8x128, .f32⟩
  | .hbm, ⟨33, _⟩ => ⟨S80x8x128, .f32⟩
  | .hbm, ⟨34, _⟩ => ⟨S80x8x128, .f32⟩
  | .hbm, ⟨35, _⟩ => ⟨S80x8x2x64, .f32⟩
  | .hbm, ⟨36, _⟩ => ⟨S_, .f32⟩
  | .hbm, ⟨37, _⟩ => ⟨S_, .f32⟩
  | .hbm, ⟨38, _⟩ => ⟨S80x8x2x64, .f32⟩
  | .hbm, ⟨39, _⟩ => ⟨S80x8x2x1, .f32⟩
  | .hbm, ⟨40, _⟩ => ⟨S80x8x2x64, .f32⟩
  | .hbm, ⟨41, _⟩ => ⟨S80x8x2x64, .f32⟩
  | .hbm, ⟨42, _⟩ => ⟨S80x8x128, .f32⟩
  | .hbm, ⟨43, _⟩ => ⟨S80x8x128, .f32⟩
  | .hbm, ⟨44, _⟩ => ⟨S80x8x128, .f32⟩
  | .hbm, ⟨45, _⟩ => ⟨S80x8x2x64, .f32⟩
  | .hbm, ⟨46, _⟩ => ⟨S80x8x2x64, .f32⟩
  | .hbm, ⟨47, _⟩ => ⟨S80x8x128, .f32⟩
  | .hbm, ⟨48, _⟩ => ⟨S80x8x128, .f32⟩
  | .hbm, ⟨49, _⟩ => ⟨S80x8x128, .f32⟩
  | .hbm, ⟨50, _⟩ => ⟨S80x8x2x64, .f32⟩
  | .hbm, ⟨51, _⟩ => ⟨S80x8x128, .f32⟩
  | .hbm, ⟨52, _⟩ => ⟨S80x72x128, .f32⟩
  | .hbm, ⟨53, _⟩ => ⟨S_, .i32⟩
  | .hbm, ⟨54, _⟩ => ⟨S_, .f32⟩
  | .hbm, ⟨55, _⟩ => ⟨S80x128x128, .f32⟩
  | .hbm, ⟨56, _⟩ => ⟨S80x128x128, .f32⟩
  | .hbm, ⟨57, _⟩ => ⟨S80x8x128, .f32⟩
  | _, _ => ⟨S80x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call1_call0_cst : Ref sig .tc := ⟨.hbm, 36, rfl⟩
abbrev main_call1_call0_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Proof.Shared.lean ====
/-
  Facts the calls of the kernel share: matrix products with a transposed operand read at an index, a column or a row laid over
  a matrix, the maximum of a column.
-/
module

public import Idealize.ShloMosaic.Lib.MatmulPlain
public import Idealize.ShloMosaic.Lib.ValueIdx
public import Idealize.ShloMosaic.Lib.Pipeline.Value

@[expose] public section

noncomputable section

open scoped BigOperators

namespace Cert.Shared

open Idealize.ShloMosaic Idealize.ShloMosaic.ValueIdx

theorem hz2 : (![0, 0] : Fin 2 → Nat) = fun _ => 0 := funext fun a => by fin_cases a <;> rfl

/-- The dimension numbers of `[K,M]ᵀ × [K,N]`: both operands contracted along their rows. -/
def transposedLhs (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simp [List.finRange]; exact List.Perm.swap _ _ _, by simp [List.finRange]; exact List.Perm.swap _ _ _, rfl, Nat.two_pos,
    fun b => by fin_cases b <;> rfl⟩

theorem transposedLhs_rank (M K N : ℕ) : (transposedLhs M K N).contr.rank = 1 := rfl
theorem transposedLhs_size (M K N : ℕ) :
    (transposedLhs M K N).contr.size ⟨0, by rw [transposedLhs_rank]; exact Nat.one_pos⟩ = K := rfl

/-- `[K,M]ᵀ × [K,N]` onto zero, read at (r, c): the sum over k of lhs[k,r] · rhs[k,c]. -/
theorem transposedLhs_apply {M K N : ℕ} {φ₁ φ₂ : FTy} (prec : Option ContractPrecision)
    (lhs : FVec Ideal ⟨2, ![K, M]⟩ φ₁) (rhs : FVec Ideal ⟨2, ![K, N]⟩ φ₂) (r : Fin M) (c : Fin N) :
    FloatOps.matmul (transposedLhs M K N) prec lhs rhs (constant (F := Ideal) ⟨2, ![M, N]⟩ .f32 0x00000000#32) (ix2 r c)
      = ∑ k : Fin K, lhs (ix2 k r) * rhs (ix2 k c) := by
  rw [Ideal.matmul_constant_zero_apply,
    ← Equiv.sum_comp (contrEquiv1 _ K (transposedLhs_rank M K N) (transposedLhs_size M K N)).symm]
  refine Finset.sum_congr rfl fun k _ => ?_
  have hk := contrEquiv1_symm_val _ K (transposedLhs_rank M K N) (transposedLhs_size M K N) k
  have el : (transposedLhs M K N).lhsIdx (ix2 r c) ((contrEquiv1 _ K (transposedLhs_rank M K N) (transposedLhs_size M K N)).symm k) = ix2 k r := by
    funext a; apply Fin.ext
    match a with
    | ⟨0, _⟩ => exact hk
    | ⟨1, _⟩ => rfl
  have er : (transposedLhs M K N).rhsIdx (ix2 r c) ((contrEquiv1 _ K (transposedLhs_rank M K N) (transposedLhs_size M K N)).symm k) = ix2 k c := by
    funext a; apply Fin.ext
    match a with
    | ⟨0, _⟩ => exact hk
    | ⟨1, _⟩ => rfl
  rw [el, er]

/-- `[M,K] × [N,K]ᵀ` onto zero, read at (r, c): the sum over k of lhs[r,k] · rhs[c,k]. -/
theorem transposedRhs_apply {M K N : ℕ} {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_transposedRhs_apply, show constant (F := Ideal) ⟨2, ![M, N]⟩ .f32 0x00000000#32 (ix2 r c) = (0 : EReal) from
    Ideal.ofBits_zero_f32, zero_add]

/-- A column laid over the columns of a matrix reads its row's entry. -/
theorem column_apply {α : Type} {M N : ℕ} (x : (⟨2, ![M, 1]⟩ : Shape).Idx → α)
    (h : (⟨2, ![M, 1]⟩ : Shape).Broadcasts ⟨2, ![M, N]⟩) (r : Fin M) (c : Fin N) :
    broadcastTo ⟨2, ![M, N]⟩ x h (ix2 r c) = x (ix2 r 0) := by
  refine broadcastTo_apply x h _ _ fun a => ?_
  match a with
  | ⟨0, _⟩ =>
    show r.val = if M = 1 then 0 else r.val
    split_ifs with hM
    · have := r.isLt; omega
    · rfl
  | ⟨1, _⟩ => rfl

/-- A row laid over the rows of a matrix reads its column's entry. -/
theorem row_apply {α : Type} {M N : ℕ} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 0 c) := by
  refine broadcastTo_apply x h _ _ fun a => ?_
  match a with
  | ⟨0, _⟩ => rfl
  | ⟨1, _⟩ =>
    show c.val = if N = 1 then 0 else c.val
    split_ifs with hN
    · have := c.isLt; omega
    · rfl

/-- The maximum of a column, from minus infinity. -/
def colMax {K N : ℕ} (x : (⟨2, ![K, N]⟩ : Shape).Idx → EReal) (c : Fin N) : EReal :=
  (Finset.univ : Finset (Fin K)).fold max (Ideal.ofBits .f32 0xFF800000#32) fun k => x (ix2 k c)

/-- The maximum of a row, from minus infinity. -/
def rowMax {M K : ℕ} (x : (⟨2, ![M, K]⟩ : Shape).Idx → EReal) (r : Fin M) : EReal :=
  (Finset.univ : Finset (Fin K)).fold max (Ideal.ofBits .f32 0xFF800000#32) fun k => x (ix2 r k)

/-- The reduction by columns is the maximum of the column. -/
theorem colMax_eq {K N : ℕ} (x : FVec Ideal ⟨2, ![K, N]⟩ .f32) (h : Shape.Reduces ⟨2, ![K, N]⟩ [0] ⟨1, ![N]⟩) (c : Fin N) :
    multiReduction .maximumf [0] ⟨1, ![N]⟩ x 0xFF800000#32 h (.inl rfl) rfl (ix1 c) = colMax x c := by
  refine (Ideal.multiReduction_maximumf_single x _ h (.inl rfl) rfl _).trans ?_
  refine congrArg (Finset.fold max _ · Finset.univ) (funext fun k => congrArg x (funext fun a => Fin.ext ?_))
  match a with | ⟨0, _⟩ => rfl | ⟨1, _⟩ => rfl

/-- The reduction by rows is the maximum of the row. -/
theorem rowMax_eq {M K : ℕ} (x : FVec Ideal ⟨2, ![M, K]⟩ .f32) (h : Shape.Reduces ⟨2, ![M, K]⟩ [1] ⟨1, ![M]⟩) (r : Fin M) :
    multiReduction .maximumf [1] ⟨1, ![M]⟩ x 0xFF800000#32 h (.inl rfl) rfl (ix1 r) = rowMax x r := by
  refine (Ideal.multiReduction_maximumf_single x _ h (.inl rfl) rfl _).trans ?_
  refine congrArg (Finset.fold max _ · Finset.univ) (funext fun k => congrArg x (funext fun a => Fin.ext ?_))
  match a with | ⟨0, _⟩ => rfl | ⟨1, _⟩ => rfl

end Cert.Shared

end
-- ==== Proof.DxValue.lean ====
/-
  The call `dx`, at the exact values: what its run leaves in its two results, and that the reference's run leaves the same.
  A grid point holds 512 rows of the codes and of their scales and the whole weight; the rows of a product are independent,
  so the blocks of rows put together are the product of the whole arrays.
-/
module

public import proofs.«01_k».proof.Defs
public import proofs.«01_k».proof.Proof.Gen.DxIdeal.Value
public import proofs.«01_k».proof.Proof.Gen.DxRefIdeal.Value
public import proofs.«01_k».proof.Proof.Shared

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxProof

open Cert.DxIdeal Cert.DxIdeal.Gen Cert.Shared

/-- The mathematics of the call: codes times weight, times the row's scale, times the weight's scale. -/
def G {M : ℕ} (v0 : (⟨2, ![M, 6144]⟩ : Shape).Idx → EReal) (v1 : (⟨2, ![2048, 6144]⟩ : Shape).Idx → EReal)
    (v3 : (⟨2, ![M, 1]⟩ : Shape).Idx → EReal) (ws : EReal) (r : Fin M) (c : Fin 2048) : EReal :=
  (∑ k : Fin 6144, v0 (ix2 r k) * v1 (ix2 c k)) * v3 (ix2 r 0) * ws

/-- The kernel's payload at an index. -/
theorem pay_apply (v0 : Vec Ideal S512x6144 .fp8e5m2) (v1 : Vec Ideal S2048x6144 .fp8e4m3) (v3 : Vec Ideal S512x1 .f32)
    (v6 : Elt Ideal .f32) (r : Fin 512) (c : Fin 2048) : k0_pay1 v0 v1 v3 v6 (ix2 r c) = G v0 v1 v3 v6 r c := by
  show (FloatOps.matmul (F := Ideal) (DotDims.transposedRhs 512 6144 2048) none v0 v1 (constant S512x2048 .f32 0x00000000#32) (ix2 r c) : EReal)
      * broadcastTo S512x2048 v3 broadcasts_S512x1_S512x2048 (ix2 r c) * v6 = _
  rw [transposedRhs_apply, column_apply]
  rfl

/-- The reference's payload at an index. -/
theorem refPay_apply (v0 : Vec Ideal S5120x6144 .fp8e5m2) (v1 : Vec Ideal S2048x6144 .fp8e4m3)
    (v3 : Vec Ideal S5120x1 .f32) (v6 : Vec Ideal S1x1 .f32) (r : Fin 5120) (c : Fin 2048) :
    Cert.DxRefIdeal.Gen.k0_pay1 v0 v1 v3 v6 (ix2 r c) = G v0 v1 v3 (v6 (ix2 0 0)) r c := by
  show (FloatOps.matmul (F := Ideal) (DotDims.transposedRhs 5120 6144 2048) none v0 v1 (constant S5120x2048 .f32 0x00000000#32) (ix2 r c) : EReal)
      * broadcastTo S5120x2048 v3 Cert.DxRefIdeal.Gen.broadcasts_S5120x1_S5120x2048 (ix2 r c)
      * v6 (fun a => ⟨![0, 0] a, Cert.DxRefIdeal.Gen.inpos_S1x1_p0_0 a⟩) = _
  rw [transposedRhs_apply, column_apply]
  refine congrArg (_ * v6 ·) ?_
  funext a; match a with | ⟨0, _⟩ => rfl | ⟨1, _⟩ => rfl

/-- What a point leaves in the first result's buffer. -/
theorem out4_eq (c : Dev nD) (i : grid0.Coords) (a1 : Memref sig .tc .vmem S512x6144 .fp8e5m2) (h1 : a1.IsWhole)
    (a2 : Memref sig .tc .vmem S512x1 .f32) (h2 : a2.IsWhole) (a3 : Memref sig .tc .vmem S2048x6144 .fp8e4m3) (h3 : a3.IsWhole)
    (a4 : Memref sig .tc .smem S1x1 .f32) (h4 : a4.IsWhole) (a5 : Memref sig .tc .vmem S512x2048 .f32) (h5 : a5.IsWhole)
    (a6 : Memref sig .tc .vmem S512x2048 .bf16) (h6 : a6.IsWhole)
    (x0 : Vec Ideal S512x6144 .fp8e5m2) (x1 : Vec Ideal S512x1 .f32) (x2 : Vec Ideal S2048x6144 .fp8e4m3) (x3 : Vec Ideal S1x1 .f32) :
    out0_A_4 c i a1 h1 a2 h2 a3 h3 a4 h4 a5 h5 a6 h6 x0 x1 x2 x3 = k0_pay1 x0 x2 x1 (x3 (ix2 0 0)) := by
  unfold out0_A_4
  rw [View.read_writes_junk_eq_canon]
  unfold kernelRun0_A
  dsimp only
  sl_unfold_words
  rw [View.canon_unit_zero hz2]
  simp only [View.readAt_eq_ld, h1.read_unread, h2.read_unread, h3.read_unread, h4.read_unread,
    View.ld_unit_zero (S := S512x6144) hz2, View.ld_unit_zero (S := S512x1) hz2, View.ld_unit_zero (S := S2048x6144) hz2]
  refine congrArg (k0_pay1 x0 x2 x1) (congrArg x3 (funext fun a => ?_))
  match a with | ⟨0, _⟩ => rfl | ⟨1, _⟩ => rfl

/-- What a point leaves in the second result's buffer: the same values, narrowed. -/
theorem out5_eq (c : Dev nD) (i : grid0.Coords) (a1 : Memref sig .tc .vmem S512x6144 .fp8e5m2) (h1 : a1.IsWhole)
    (a2 : Memref sig .tc .vmem S512x1 .f32) (h2 : a2.IsWhole) (a3 : Memref sig .tc .vmem S2048x6144 .fp8e4m3) (h3 : a3.IsWhole)
    (a4 : Memref sig .tc .smem S1x1 .f32) (h4 : a4.IsWhole) (a5 : Memref sig .tc .vmem S512x2048 .f32) (h5 : a5.IsWhole)
    (a6 : Memref sig .tc .vmem S512x2048 .bf16) (h6 : a6.IsWhole)
    (x0 : Vec Ideal S512x6144 .fp8e5m2) (x1 : Vec Ideal S512x1 .f32) (x2 : Vec Ideal S2048x6144 .fp8e4m3) (x3 : Vec Ideal S1x1 .f32) :
    out0_A_5 c i a1 h1 a2 h2 a3 h3 a4 h4 a5 h5 a6 h6 x0 x1 x2 x3 = k0_pay2 x0 x2 x1 (x3 (ix2 0 0)) := by
  unfold out0_A_5
  rw [View.read_writes_junk_eq_canon]
  unfold kernelRun0_A
  dsimp only
  sl_unfold_words
  rw [View.canon_unit_zero hz2]
  simp only [View.readAt_eq_ld, h1.read_unread, h2.read_unread, h3.read_unread, h4.read_unread,
    View.ld_unit_zero (S := S512x6144) hz2, View.ld_unit_zero (S := S512x1) hz2, View.ld_unit_zero (S := S2048x6144) hz2]
  refine congrArg (k0_pay2 x0 x2 x1) (congrArg x3 (funext fun a => ?_))
  match a with | ⟨0, _⟩ => rfl | ⟨1, _⟩ => rfl

variable (m : (ℓ : Loc nD τ sig) → Buf (Elt Ideal) ℓ) (ρ : Dev nD → PrngReg)

/-- Where the windows stand at a point: the row windows at block row `t`, the others at zero. -/
theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- Row `r` of block `t`. -/
def rowAt (t : Fin cfg0.N) (r : Fin 512) : Fin 5120 := ⟨t.val * 512 + r.val, by
  have ht : t.val < 10 := t.isLt
  have := r.isLt; omega⟩

theorem iblk0_apply (c : Dev nD) (t : Fin cfg0.N) (r : Fin 512) (k : Fin 6144) :
    iblk m c 0 t (ix2 r k) = m ((c : Thread nD τ).loc main_arg0) (ix2 (rowAt t r) k) := by
  rw [← V_main_arg0 m c]
  show V m c main_arg0 (((cfg0.win 0).blk t).view.emb (ix2 r k)) = _
  obtain ⟨⟨e0, e1⟩, -⟩ := idx t
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 6144 + 1 * k.val = k.val; omega

theorem iblk1_apply (c : Dev nD) (t : Fin cfg0.N) (r : Fin 512) :
    iblk m c 1 t (ix2 r (0 : Fin 1)) = m ((c : Thread nD τ).loc main_arg1) (ix2 (rowAt t r) (0 : Fin 1)) := by
  rw [← V_main_arg1 m c]
  show V m c main_arg1 (((cfg0.win 1).blk t).view.emb (ix2 r (0 : Fin 1))) = _
  obtain ⟨-, ⟨e0, e1⟩, -⟩ := idx t
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 1 + 1 * 0 = 0; omega

theorem iblk2_apply (c : Dev nD) (t : Fin cfg0.N) (r : Fin 2048) (k : Fin 6144) :
    iblk m c 2 t (ix2 r k) = m ((c : Thread nD τ).loc main_arg2) (ix2 r k) := by
  rw [← V_main_arg2 m c]
  show V m c main_arg2 (((cfg0.win 2).blk t).view.emb (ix2 r k)) = _
  obtain ⟨-, -, ⟨e0, e1⟩, -⟩ := idx t
  refine congrArg _ (funext fun a => Fin.ext ?_)
  match a with
  | ⟨0, _⟩ => show win0_2.index t (0 : Fin 2) * 2048 + 1 * r.val = r.val; omega
  | ⟨1, _⟩ => show win0_2.index t (1 : Fin 2) * 6144 + 1 * k.val = k.val; omega

theorem iblk3_apply (c : Dev nD) (t : Fin cfg0.N) :
    iblk m c 3 t (ix2 (0 : Fin 1) (0 : Fin 1)) = m ((c : Thread nD τ).loc main_arg3) (ix2 (0 : Fin 1) (0 : Fin 1)) := by
  rw [← V_main_arg3 m c]
  show V m c main_arg3 (((cfg0.win 3).blk t).view.emb (ix2 (0 : Fin 1) (0 : Fin 1))) = _
  obtain ⟨-, -, -, ⟨e0, e1⟩, -⟩ := idx t
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

theorem emb4 (t : Fin cfg0.N) (r : Fin 512) (k : Fin 2048) :
    ((cfg0.win 4).blk t).view.emb (ix2 r k) = ix2 (rowAt t r) k := by
  obtain ⟨-, -, -, -, ⟨e0, e1⟩, -⟩ := idx t
  funext a; apply Fin.ext
  match a with
  | ⟨0, _⟩ => show win0_4.index t (0 : Fin 2) * 512 + 1 * r.val = t.val * 512 + r.val; omega
  | ⟨1, _⟩ => show win0_4.index t (1 : Fin 2) * 2048 + 1 * k.val = k.val; omega

theorem emb5 (t : Fin cfg0.N) (r : Fin 512) (k : Fin 2048) :
    ((cfg0.win 5).blk t).view.emb (ix2 r k) = ix2 (rowAt t r) k := by
  obtain ⟨-, -, -, -, -, e0, e1⟩ := idx t
  funext a; apply Fin.ext
  match a with
  | ⟨0, _⟩ => show win0_5.index t (0 : Fin 2) * 512 + 1 * r.val = t.val * 512 + r.val; omega
  | ⟨1, _⟩ => show win0_5.index t (1 : Fin 2) * 2048 + 1 * k.val = k.val; omega

/-- Every row is a row of a block. -/
theorem exists_row (r : Fin 5120) : ∃ (t : Fin cfg0.N) (q : Fin 512), rowAt t q = r := by
  have hr := r.isLt
  refine ⟨⟨r.val / 512, by show r.val / 512 < 10; omega⟩, ⟨r.val % 512, by omega⟩, Fin.ext ?_⟩
  show r.val / 512 * 512 + r.val % 512 = r.val
  omega

/-- The values the call leaves, of the argument arrays as launched. -/
abbrev res (c : Dev nD) (r : Fin 5120) (k : Fin 2048) : EReal :=
  G (M := 5120) (m ((c : Thread nD τ).loc main_arg0)) (m ((c : Thread nD τ).loc main_arg2)) (m ((c : Thread nD τ).loc main_arg1))
    (m ((c : Thread nD τ).loc main_arg3) (ix2 (0 : Fin 1) (0 : Fin 1))) r k

theorem tile_eq (c : Dev nD) (t : Fin cfg0.N) (r : Fin 512) (k : Fin 2048) :
    G (M := 512) (iblk m c 0 t) (iblk m c 2 t) (iblk m c 1 t) (iblk m c 3 t (ix2 (0 : Fin 1) (0 : Fin 1))) r k = res m c (rowAt t r) k := by
  unfold res G
  rw [iblk1_apply, iblk3_apply]
  simp only [iblk0_apply, iblk2_apply]

theorem final4 (c : Dev nD) (r : Fin 5120) (k : Fin 2048) : (dats m 0 c).arrAt 4 cfg0.N (ix2 r k) = res m c r k := by
  obtain ⟨t, q, rfl⟩ := exists_row r
  have h := congrFun (Value.blocks4 m c t (flush0_4 t)) (ix2 q k)
  rw [Value.flushed4_A, out4_eq] at h
  have h' : (dats m 0 c).arrAt 4 cfg0.N (((cfg0.win 4).blk t).view.emb (ix2 q k))
      = k0_pay1 (iblk m c 0 t) (iblk m c 2 t) (iblk m c 1 t) (iblk m c 3 t (ix2 (0 : Fin 1) (0 : Fin 1))) (ix2 q k) := h
  rw [emb4] at h'
  rw [h', pay_apply, tile_eq]

theorem final5 (c : Dev nD) (r : Fin 5120) (k : Fin 2048) : (dats m 0 c).arrAt 5 cfg0.N (ix2 r k) = res m c r k := by
  obtain ⟨t, q, rfl⟩ := exists_row r
  have h := congrFun (Value.blocks5 m c t (flush0_5 t)) (ix2 q k)
  rw [Value.flushed5_A, out5_eq] at h
  have h' : (dats m 0 c).arrAt 5 cfg0.N (((cfg0.win 5).blk t).view.emb (ix2 q k))
      = k0_pay1 (iblk m c 0 t) (iblk m c 2 t) (iblk m c 1 t) (iblk m c 3 t (ix2 (0 : Fin 1) (0 : Fin 1))) (ix2 q k) := h
  rw [emb5] at h'
  rw [h', pay_apply, tile_eq]

end Cert.DxProof

namespace Cert.Proof

open Cert.DxProof

/-- The call `dx` and its reference leave equal results. -/
theorem dx_algebraic : @Cert.algebraic_DxIdeal_DxRefIdeal Cert.DxIdeal.Gen.facts Cert.DxRefIdeal.Gen.facts := by
  unfold Cert.algebraic_DxIdeal_DxRefIdeal
  intro m g m' g' _ hagree
  refine ⟨fun c => (Cert.DxIdeal.Gen.dats m 0 c).arrAt 4 Cert.DxIdeal.cfg0.N,
    fun c => (Cert.DxIdeal.Gen.dats m 0 c).arrAt 5 Cert.DxIdeal.cfg0.N, Cert.DxIdeal.Value.run_blocks m g, ?_⟩
  refine (θ_run _ _ _).mono (fun r h c => ?_) (Cert.DxRefIdeal.Value.run m' g')
  obtain ⟨h4, h5, h6⟩ := h c
  obtain ⟨a0, a1, a2, a3⟩ := hagree c
  refine ⟨h4.trans ?_, h5.trans ?_, h6⟩
  · rw [a0, a1, a2, a3]
    funext j
    obtain ⟨p, q, rfl⟩ : ∃ p q, j = ix2 p q := ⟨_, _, eq_ix2 j⟩
    exact (refPay_apply _ _ _ _ p q).trans (final4 m c p q).symm
  · rw [a0, a1, a2, a3]
    funext j
    obtain ⟨p, q, rfl⟩ : ∃ p q, j = ix2 p q := ⟨_, _, eq_ix2 j⟩
    exact (refPay_apply _ _ _ _ p q).trans (final5 m c p q).symm

end Cert.Proof

end
-- ==== Proof.Quant.lean ====
/-
  Quantising the columns of a matrix, at the exact values: the scale of a column from its greatest magnitude, the code of an
  element by its column's scale, the product of the codes with a second matrix, and the condition that partial maxima have the
  column's greatest magnitude as their maximum.
-/
module

public import proofs.«01_k».proof.Proof.Shared

@[expose] public section

noncomputable section

open scoped BigOperators

namespace Cert.Shared

open Idealize.ShloMosaic Idealize.ShloMosaic.ValueIdx

/-- The scale of a column whose greatest magnitude is `a`: `a / f`, and 1 where `a` is 0 (`f` the codes' greatest number). -/
def scaleOf (f : BitVec 32) (a : EReal) : EReal :=
  Scalar.select (Ideal.cmp .oeq a (Ideal.ofBits .f32 0x00000000#32)) (Ideal.ofBits .f32 0x3F800000#32)
    (Ideal.div a (Ideal.ofBits .f32 f))

/-- The code of `v` under scale `s`: the quotient, clipped to the codes' range. -/
def codeOf (lo hi : BitVec 32) (v s : EReal) : EReal :=
  min (Ideal.ofBits .f32 hi) (max (Ideal.ofBits .f32 lo) (Ideal.div v s))

/-- The maximum of a column's magnitudes. -/
def colAbs {K N : ℕ} (x : (⟨2, ![K, N]⟩ : Shape).Idx → EReal) (c : Fin N) : EReal := colMax (fun i => max (x i) (-x i)) c

/-- A vector laid as a row reads its column's entry. -/
theorem asRow_apply {α : Type} {N : ℕ} (x : (⟨1, ![N]⟩ : Shape).Idx → α)
    (h : (⟨1, ![N]⟩ : Shape).ShapeCasts ⟨2, ![1, N]⟩) (c : Fin N) : shapeCast ⟨2, ![1, N]⟩ x h (ix2 0 c) = x (ix1 c) := by
  refine shapeCast_apply x h _ _ ?_
  rw [Shape.rowMajor_val_one, Shape.rowMajor_val_two]
  show c.val = 0 * N + c.val
  omega

/-- A vector laid as a column reads its row's entry. -/
theorem asCol_apply {α : Type} {N : ℕ} (x : (⟨1, ![N]⟩ : Shape).Idx → α)
    (h : (⟨1, ![N]⟩ : Shape).ShapeCasts ⟨2, ![N, 1]⟩) (r : Fin N) : shapeCast ⟨2, ![N, 1]⟩ x h (ix2 r 0) = x (ix1 r) := by
  refine shapeCast_apply x h _ _ ?_
  rw [Shape.rowMajor_val_one, Shape.rowMajor_val_two]
  show r.val = r.val * 1 + 0
  omega

/-- A transposed matrix read at an index. -/
theorem flip_apply {α : Type} {M N : ℕ} (x : (⟨2, ![M, N]⟩ : Shape).Idx → α)
    (h : (⟨2, ![M, N]⟩ : Shape).Transposes [1, 0] ⟨2, ![N, M]⟩) (r : Fin N) (c : Fin M) :
    transpose ⟨2, ![N, M]⟩ [1, 0] x h (ix2 r c) = x (ix2 c r) := by
  refine transpose_apply _ x h _ _ fun b => ?_
  match b with | ⟨0, _⟩ => rfl | ⟨1, _⟩ => rfl

/-- The printed scale of the columns, at a column. -/
theorem scale_apply {K N : ℕ} (f : BitVec 32) (v : FVec Ideal ⟨2, ![K, N]⟩ .f32)
    (h1 : Shape.Reduces ⟨2, ![K, N]⟩ [0] ⟨1, ![N]⟩) (h2 : (⟨1, ![N]⟩ : Shape).ShapeCasts ⟨2, ![1, N]⟩) (c : Fin N) :
    select (cmpf .oeq (shapeCast ⟨2, ![1, N]⟩ (multiReduction .maximumf [0] ⟨1, ![N]⟩ v 0xFF800000#32 h1 (.inl rfl) rfl) h2)
        (broadcast ⟨2, ![1, N]⟩ (Scalar.ofBits (F := Ideal) .f32 0x00000000#32)))
      (broadcast ⟨2, ![1, N]⟩ (Scalar.ofBits (F := Ideal) .f32 0x3F800000#32))
      (divf (shapeCast ⟨2, ![1, N]⟩ (multiReduction .maximumf [0] ⟨1, ![N]⟩ v 0xFF800000#32 h1 (.inl rfl) rfl) h2)
        (broadcast ⟨2, ![1, N]⟩ (Scalar.ofBits (F := Ideal) .f32 f))) (ix2 0 c) = scaleOf f (colMax v c) := by
  have e := (asRow_apply (multiReduction (F := Ideal) .maximumf [0] ⟨1, ![N]⟩ v 0xFF800000#32 h1 (.inl rfl) rfl) h2 c).trans
    (colMax_eq v h1 c)
  rw [← e]
  rfl

/-- The printed codes, at an element. -/
theorem code_apply {K N : ℕ} (φ : FTy) (hφ : φ.bits < FTy.bits .f32) (lo hi : BitVec 32) (v : FVec Ideal ⟨2, ![K, N]⟩ .f32)
    (s : FVec Ideal ⟨2, ![1, N]⟩ .f32) (h : (⟨2, ![1, N]⟩ : Shape).Broadcasts ⟨2, ![K, N]⟩) (k : Fin K) (c : Fin N) :
    truncf φ (minimumf (broadcast ⟨2, ![K, N]⟩ (Scalar.ofBits (F := Ideal) .f32 hi))
      (maximumf (broadcast ⟨2, ![K, N]⟩ (Scalar.ofBits (F := Ideal) .f32 lo)) (divf v (broadcastTo ⟨2, ![K, N]⟩ s h)))) hφ (ix2 k c)
      = codeOf lo hi (v (ix2 k c)) (s (ix2 0 c)) := by
  rw [← row_apply s h k c]
  rfl

/-- The printed product of the codes, transposed, with a second matrix, at an element. -/
theorem prodLhs_apply {M K N : ℕ} (φ : FTy) (hφ : φ.bits < FTy.bits .bf16) (x : FVec Ideal ⟨2, ![K, M]⟩ φ)
    (d : FVec Ideal ⟨2, ![K, N]⟩ .bf16) (r : Fin M) (c : Fin N) :
    matmul (transposedLhs M K N) none (extf .bf16 x hφ) d (constant (F := Ideal) ⟨2, ![M, N]⟩ .f32 0x00000000#32) (ix2 r c)
      = ∑ k : Fin K, x (ix2 k r) * d (ix2 k c) := transposedLhs_apply none _ d r c

/-- The printed product of a second matrix, transposed, with the codes, at an element. -/
theorem prodRhs_apply {M K N : ℕ} (φ : FTy) (hφ : φ.bits < FTy.bits .bf16) (d : FVec Ideal ⟨2, ![K, M]⟩ .bf16)
    (x : FVec Ideal ⟨2, ![K, N]⟩ φ) (r : Fin M) (c : Fin N) :
    matmul (transposedLhs M K N) none d (extf .bf16 x hφ) (constant (F := Ideal) ⟨2, ![M, N]⟩ .f32 0x00000000#32) (ix2 r c)
      = ∑ k : Fin K, d (ix2 k r) * x (ix2 k c) := transposedLhs_apply none d _ r c

/-- Codes of rows times their scales, both narrowed to bf16, at an element. -/
theorem unpack_apply {M N : ℕ} (φ : FTy) (hφ : φ.bits < FTy.bits .bf16) (hψ : FTy.bits .bf16 < FTy.bits .f32)
    (x : FVec Ideal ⟨2, ![M, N]⟩ φ) (s : FVec Ideal ⟨2, ![M, 1]⟩ .f32) (h : (⟨2, ![M, 1]⟩ : Shape).Broadcasts ⟨2, ![M, N]⟩)
    (r : Fin M) (c : Fin N) :
    mulf (extf .bf16 x hφ) (broadcastTo ⟨2, ![M, N]⟩ (truncf .bf16 s hψ) h) (ix2 r c) = (x (ix2 r c) * s (ix2 r 0) : EReal) := by
  rw [mulf_apply, column_apply]
  rfl

/-- A row turned into a column and laid over the columns of a matrix. -/
theorem turned_apply {α : Type} {M N : ℕ} (s : (⟨2, ![1, M]⟩ : Shape).Idx → α)
    (h1 : (⟨2, ![1, M]⟩ : Shape).Transposes [1, 0] ⟨2, ![M, 1]⟩) (h2 : (⟨2, ![M, 1]⟩ : Shape).Broadcasts ⟨2, ![M, N]⟩)
    (r : Fin M) (c : Fin N) : broadcastTo ⟨2, ![M, N]⟩ (transpose ⟨2, ![M, 1]⟩ [1, 0] s h1) h2 (ix2 r c) = s (ix2 0 r) := by
  rw [column_apply, flip_apply]

/-- The host's maximum by columns is the maximum of the column. -/
theorem hostColMax_eq {K N : ℕ} {u : Shape} (x : FVec Ideal ⟨2, ![K, N]⟩ .f32)
    (h' : Shape.ReducesTo ⟨2, ![K, N]⟩ [0] ⟨1, ![N]⟩) (h : Shape.Reduces ⟨2, ![K, N]⟩ [0] ⟨1, ![N]⟩) (hu : 0 < u.numel) (c : Fin N) :
    Host.reduce (FloatOps.maximumf (F := Ideal) (φ := .f32)) x (constant u .f32 0xFF800000#32) h' hu (ix1 c) = colMax x c := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine (Host.reduce_eq_fold_single _ x _ h' h hu _).trans ?_
  refine congrArg (Finset.fold max (Ideal.ofBits .f32 0xFF800000#32) · Finset.univ) (funext fun k => congrArg x (funext fun a => Fin.ext ?_))
  match a with | ⟨0, _⟩ => rfl | ⟨1, _⟩ => rfl

/-- A comparison for equality that answers 1 is an equality. -/
theorem eq_of_cmp {a b : EReal} (h : Ideal.cmp .oeq a b = 1#1) : a = b := by
  by_contra hne
  simp [Ideal.cmp, hne] at h

end Cert.Shared

end
-- ==== Proof.Pow2.lean ====
/-
  Scaling the rows of a matrix by powers of two, at the exact values: a power of two from its bits, the exponent of a number as a
  count, and that the least power of two above the number is the one with that exponent.
-/
module

public import proofs.«01_k».proof.Proof.Quant

@[expose] public section

noncomputable section

open scoped BigOperators

namespace Cert.Shared

open Idealize.ShloMosaic Idealize.ShloMosaic.ValueIdx

/-! ## Powers of two -/

/-- 2 to an integer power, as an exact value. -/
def two (z : ℤ) : EReal := (((2 : ℝ) ^ z : ℝ) : EReal)

theorem two_lt {a b : ℤ} : two a < two b ↔ a < b := by
  unfold two
  rw [EReal.coe_lt_coe_iff]
  exact zpow_lt_zpow_iff_right₀ (by norm_num)

theorem two_le {a b : ℤ} : two a ≤ two b ↔ a ≤ b := by
  unfold two
  rw [EReal.coe_le_coe_iff]
  exact zpow_le_zpow_iff_right₀ (by norm_num)

theorem two_inv (z : ℤ) : Ideal.div 1 (two z) = two (-z) := by
  have h : two z ≠ 0 := by
    unfold two
    rw [Ne, EReal.coe_eq_zero]
    positivity
  unfold Ideal.div
  rw [if_neg h, one_mul]
  unfold two
  rw [← EReal.coe_inv, zpow_neg]

theorem fields : ∀ k : Fin 256, ((BitVec.ofNat 32 k.val <<< 23#32).extractLsb' 31 1 == 1#1) = false
    ∧ ((BitVec.ofNat 32 k.val <<< 23#32).extractLsb' 23 8).toNat = k.val
    ∧ ((BitVec.ofNat 32 k.val <<< 23#32).extractLsb' 0 23).toNat = 0 := by
  decide +kernel

/-- The exponent field `k` alone is 2^(k - 127). -/
theorem power_bits (k : ℕ) (h1 : 1 ≤ k) (h2 : k ≤ 254) :
    Ideal.ofBits .f32 (BitVec.ofNat 32 k <<< 23#32) = two ((k : ℤ) - 127) := by
  obtain ⟨f1, f2, f3⟩ := fields ⟨k, by omega⟩
  dsimp only at f1 f2 f3
  show Ideal.ieee 8 23 (BitVec.ofNat 32 k <<< 23#32) = _
  unfold Ideal.ieee
  dsimp only
  rw [f1, f2, f3, if_neg (by omega), if_neg (by omega)]
  unfold two
  refine congrArg _ ?_
  have e : ((k : ℤ) - (2 ^ (8 - 1) - 1) - (23 : ℕ)) = ((k : ℤ) - 127) - 23 := by norm_num
  rw [e, zpow_sub₀ (by norm_num)]
  norm_num
  ring

/-- The all-ones exponent field alone is infinity. -/
theorem power_bits_top : Ideal.ofBits .f32 (BitVec.ofNat 32 255 <<< 23#32) = ⊤ := by
  obtain ⟨f1, f2, f3⟩ := fields ⟨255, by omega⟩
  dsimp only at f1 f2 f3
  show Ideal.ieee 8 23 (BitVec.ofNat 32 255 <<< 23#32) = _
  unfold Ideal.ieee
  dsimp only
  rw [f1, f2, f3, if_pos (by norm_num), if_pos rfl]
  simp

/-! ## The exponent of a number -/

/-- How many of the numbers 2^(k - 127), k from 1 to 254, are at most `x`. -/
def count (x : EReal) : ℕ := ((Finset.univ : Finset (Fin 256)).filter fun k => 0 < k.val ∧ k.val ≤ 254 ∧ two ((k.val : ℤ) - 127) ≤ x).card

/-- The count is where the powers pass `x`. -/
theorem count_spec (x : EReal) (hx : x < two 126) :
    count x ≤ 252 ∧ ∀ k : ℕ, 0 < k → k ≤ 254 → (two ((k : ℤ) - 127) ≤ x ↔ k ≤ count x) := by
  classical
  let P : ℕ → Prop := fun k => 0 < k ∧ k ≤ 254 ∧ two ((k : ℤ) - 127) ≤ x
  have hP : ∀ k, P k → k ≤ 252 := fun k hk => by
    have := two_lt.mp (lt_of_le_of_lt hk.2.2 hx)
    omega
  obtain ⟨n, hn, hall⟩ : ∃ n : ℕ, n ≤ 252 ∧ ∀ k : ℕ, 0 < k → k ≤ 254 → (two ((k : ℤ) - 127) ≤ x ↔ k ≤ n) := by
    refine ⟨Nat.findGreatest P 252, Nat.findGreatest_le _, fun k h0 h1 => ⟨fun h => ?_, fun h => ?_⟩⟩
    · exact Nat.le_findGreatest (hP k ⟨h0, h1, h⟩) ⟨h0, h1, h⟩
    · have hg : P (Nat.findGreatest P 252) := by
        by_contra hne
        have : Nat.findGreatest P 252 ≠ 0 := by omega
        exact hne (Nat.findGreatest_of_ne_zero rfl this)
      exact le_trans (two_le.mpr (by omega)) hg.2.2
  have hc : count x = n := by
    unfold count
    have : ((Finset.univ : Finset (Fin 256)).filter fun k => 0 < k.val ∧ k.val ≤ 254 ∧ two ((k.val : ℤ) - 127) ≤ x)
        = (Finset.univ : Finset (Fin n)).map ⟨fun i : Fin n => (⟨i.val + 1, by have := i.isLt; omega⟩ : Fin 256), fun a b h => by
            simpa [Fin.ext_iff] using h⟩ := by
      ext k
      simp only [Finset.mem_filter, Finset.mem_univ, true_and, Finset.mem_map, Function.Embedding.coeFn_mk]
      constructor
      · rintro ⟨h0, h1, h⟩
        have := (hall k.val h0 h1).mp h
        exact ⟨⟨k.val - 1, by omega⟩, Fin.ext (by show k.val - 1 + 1 = k.val; omega)⟩
      · rintro ⟨i, rfl⟩
        have := i.isLt
        exact ⟨Nat.succ_pos _, by show i.val + 1 ≤ 254; omega, (hall (i.val + 1) (by omega) (by omega)).mpr (by omega)⟩
    rw [this, Finset.card_map, Finset.card_univ, Fintype.card_fin]
  exact ⟨hc ▸ hn, hc ▸ hall⟩

/-- The biased exponent of a row's scale: of the least power of two above `x`, and of 1 where `x` is 0. -/
def bexp (x : EReal) : ℕ := if x = 0 then 126 else count x

theorem bexp_le (x : EReal) (hx : x < two 126) : bexp x ≤ 252 := by
  unfold bexp
  split_ifs
  · omega
  · exact (count_spec x hx).1

/-! ## The count as the kernel prints it -/

/-- One term of the printed count. -/
def term (x : EReal) (k : Fin 256) : BitVec 32 :=
  Scalar.select (IntOp.andi (IntOp.cmpi .sgt (BitVec.ofNat 32 k.val) 0#32)
    (Ideal.cmp .ole (Ideal.ofBits .f32 (IntOp.shli .vector (BitVec.ofNat 32 k.val) 23#32)) x)) 1#32 0#32

theorem shl23 (b : BitVec 32) : IntOp.shli .vector b 23#32 = b <<< 23#32 := rfl

theorem pos_bits : ∀ k : Fin 256, IntOp.cmpi .sgt (BitVec.ofNat 32 k.val) 0#32 = BitVec.ofBool (decide (0 < k.val)) := by
  decide +kernel

theorem term_eq (x : EReal) (hx : x < two 126) (k : Fin 256) :
    term x k = if 0 < k.val ∧ k.val ≤ 254 ∧ two ((k.val : ℤ) - 127) ≤ x then 1#32 else 0#32 := by
  unfold term
  rw [shl23, pos_bits]
  have hk := k.isLt
  by_cases h0 : 0 < k.val
  · by_cases h1 : k.val ≤ 254
    · rw [power_bits k.val h0 h1]
      by_cases h : two ((k.val : ℤ) - 127) ≤ x
      · rw [if_pos ⟨h0, h1, h⟩]
        simp [Ideal.cmp, h, h0, IntOp.andi, Scalar.select]
      · rw [if_neg (fun hh => h hh.2.2)]
        simp [Ideal.cmp, h, h0, IntOp.andi, Scalar.select]
    · have e : k.val = 255 := by omega
      rw [if_neg (fun hh => h1 hh.2.1), e, power_bits_top]
      have : ¬ (⊤ : EReal) ≤ x := fun h => absurd (lt_of_le_of_lt h hx) (by simp)
      simp [Ideal.cmp, this, IntOp.andi, Scalar.select]
  · rw [if_neg (fun hh => h0 hh.1)]
    simp [h0, IntOp.andi, Scalar.select]

theorem fold_add (s : Finset (Fin 256)) (p : Fin 256 → Prop) [DecidablePred p] :
    s.fold (IKind.add).op 0#32 (fun k => if p k then 1#32 else 0#32) = BitVec.ofNat 32 (s.filter p).card := by
  classical
  induction s using Finset.induction_on with
  | empty => rfl
  | insert a s ha ih =>
    rw [Finset.fold_insert ha, ih, Finset.filter_insert]
    by_cases h : p a
    · rw [if_pos h, if_pos h, Finset.card_insert_of_notMem (by simp [ha])]
      show 1#32 + BitVec.ofNat 32 _ = _
      rw [Nat.add_comm, BitVec.ofNat_add]
    · rw [if_neg h, if_neg h]
      show 0#32 + BitVec.ofNat 32 _ = _
      rw [BitVec.zero_add]

theorem fold_term (x : EReal) (hx : x < two 126) :
    (Finset.univ : Finset (Fin 256)).fold (IKind.add).op 0#32 (term x) = BitVec.ofNat 32 (count x) := by
  rw [show term x = fun k : Fin 256 => if 0 < k.val ∧ k.val ≤ 254 ∧ two ((k.val : ℤ) - 127) ≤ x then 1#32 else 0#32 from
    funext (term_eq x hx), fold_add]
  rfl

/-! ## The scale and its inverse, from their bits -/

/-- The printed exponent. -/
def expo (x : EReal) : BitVec 32 :=
  Scalar.select (Ideal.cmp .oeq x (Ideal.ofBits .f32 0x00000000#32)) 0#32
    (IntOp.subi ((Finset.univ : Finset (Fin 256)).fold (IKind.add).op 0#32 (term x)) 126#32)

theorem expo_eq (x : EReal) (hx : x < two 126) : expo x = BitVec.ofNat 32 (bexp x) - 126#32 := by
  unfold expo bexp
  rw [fold_term x hx, Ideal.ofBits_zero_f32]
  by_cases h : x = 0
  · rw [if_pos h]
    simp [Ideal.cmp, h, Scalar.select]
  · rw [if_neg h]
    simp [Ideal.cmp, h, Scalar.select, IntOp.subi]

theorem scale_word : ∀ n : Fin 253, BitVec.ofNat 32 n.val - 126#32 + 127#32 = BitVec.ofNat 32 (n.val + 1) := by decide +kernel

theorem inv_word : ∀ n : Fin 253, 127#32 - (BitVec.ofNat 32 n.val - 126#32) = BitVec.ofNat 32 (253 - n.val) := by decide +kernel

theorem scale_bits (x : EReal) (hx : x < two 126) :
    Ideal.ofBits .f32 (IntOp.shli .vector (IntOp.addi (expo x) 127#32) 23#32) = two ((bexp x : ℤ) - 126) := by
  have hb := bexp_le x hx
  rw [shl23, expo_eq x hx]
  show Ideal.ofBits .f32 ((BitVec.ofNat 32 (bexp x) - 126#32 + 127#32) <<< 23#32) = _
  rw [scale_word ⟨bexp x, by omega⟩, power_bits _ (by simp) (by dsimp only; omega)]
  refine congrArg two ?_
  push_cast
  omega

theorem inv_bits (x : EReal) (hx : x < two 126) :
    Ideal.ofBits .f32 (IntOp.shli .vector (IntOp.subi 127#32 (expo x)) 23#32) = two (126 - (bexp x : ℤ)) := by
  have hb := bexp_le x hx
  rw [shl23, expo_eq x hx]
  show Ideal.ofBits .f32 ((127#32 - (BitVec.ofNat 32 (bexp x) - 126#32)) <<< 23#32) = _
  rw [inv_word ⟨bexp x, by omega⟩, power_bits _ (by dsimp only; omega) (by dsimp only; omega)]
  refine congrArg two ?_
  dsimp only
  omega

/-! ## The least power of two above a number, as the reference prints it -/

/-- One entry of the reference's table: the power where it is above `x`, infinity elsewhere. -/
def entry (x : EReal) (k : Fin 256) : EReal :=
  Scalar.select (Ideal.cmp .ogt (Ideal.exp2 ((((BitVec.ofNat 32 k.val).toInt : ℝ) : EReal) - Ideal.ofBits .f32 0x42FC0000#32)) x)
    (Ideal.exp2 ((((BitVec.ofNat 32 k.val).toInt : ℝ) : EReal) - Ideal.ofBits .f32 0x42FC0000#32)) (Ideal.ofBits .f32 0x7F800000#32)

theorem toInt_small : ∀ k : Fin 256, (BitVec.ofNat 32 k.val).toInt = (k.val : ℤ) := by decide +kernel

theorem bits_126 : Ideal.ofBits .f32 0x42FC0000#32 = ((126 : ℝ) : EReal) := by
  simp [Ideal.ofBits, Ideal.ieee, -EReal.coe_mul]; norm_num

theorem bits_top : Ideal.ofBits .f32 0x7F800000#32 = ⊤ := by simp [Ideal.ofBits, Ideal.ieee]

theorem bits_one : Ideal.ofBits .f32 0x3F800000#32 = 1 := by simp [Ideal.ofBits, Ideal.ieee, -EReal.coe_mul]; norm_num

theorem table_eq (k : Fin 256) :
    Ideal.exp2 ((((BitVec.ofNat 32 k.val).toInt : ℝ) : EReal) - Ideal.ofBits .f32 0x42FC0000#32) = two ((k.val : ℤ) - 126) := by
  rw [toInt_small, bits_126, ← EReal.coe_sub, Ideal.exp2_coe]
  unfold two
  refine congrArg _ ?_
  show (2 : ℝ) ^ (((k.val : ℤ) : ℝ) - 126) = _
  rw [← Real.rpow_intCast]
  push_cast
  rfl

/-- The reference's scale. -/
def least (x : EReal) : EReal :=
  Scalar.select (Ideal.cmp .oeq x (Ideal.ofBits .f32 0x00000000#32)) (Ideal.ofBits .f32 0x3F800000#32)
    ((Finset.univ : Finset (Fin 256)).fold min (Ideal.ofBits .f32 0x7F800000#32) (entry x))

theorem least_eq (x : EReal) (hx : x < two 126) : least x = two ((bexp x : ℤ) - 126) := by
  unfold least bexp
  rw [Ideal.ofBits_zero_f32, bits_one]
  by_cases h : x = 0
  · rw [if_pos h]
    simp [Ideal.cmp, h, Scalar.select, two]
  · rw [if_neg h]
    have hs : ∀ b, Scalar.select (Ideal.cmp .oeq x 0) (1 : EReal) b = b := fun b => by simp [Ideal.cmp, h, Scalar.select]
    rw [hs]
    obtain ⟨hn, hall⟩ := count_spec x hx
    have hcount : x < two ((count x : ℤ) - 126) := by
      by_contra hle
      have := (hall (count x + 1) (by omega) (by omega)).mp (le_of_not_gt (by
        rw [show (((count x + 1 : ℕ) : ℤ) - 127) = (count x : ℤ) - 126 by push_cast; omega]; exact hle))
      omega
    have hentry : ∀ k : Fin 256, entry x k = if count x ≤ k.val then two ((k.val : ℤ) - 126) else ⊤ := fun k => by
      have hk := k.isLt
      unfold entry
      rw [table_eq, bits_top]
      by_cases hle : count x ≤ k.val
      · have : x < two ((k.val : ℤ) - 126) := lt_of_lt_of_le hcount (two_le.mpr (by omega))
        simp [Ideal.cmp, this, Scalar.select, hle]
      · have hp : two (((k.val + 1 : ℕ) : ℤ) - 127) ≤ x := (hall (k.val + 1) (by omega) (by omega)).mpr (by omega)
        rw [show (((k.val + 1 : ℕ) : ℤ) - 127) = (k.val : ℤ) - 126 by push_cast; omega] at hp
        have : ¬ x < two ((k.val : ℤ) - 126) := not_lt.mpr hp
        simp [Ideal.cmp, this, Scalar.select, hle]
    apply le_antisymm
    · refine (Finset.fold_min_le _).mpr (Or.inr ⟨⟨count x, by omega⟩, Finset.mem_univ _, ?_⟩)
      rw [hentry, if_pos le_rfl]
    · refine (Finset.le_fold_min _).mpr ⟨by rw [bits_top]; exact le_top, fun k _ => ?_⟩
      rw [hentry]
      split_ifs with hle
      · exact two_le.mpr (by omega)
      · exact le_top

end Cert.Shared

end
-- ==== Proof.Pow2Rows.lean ====
/-
  The rows' power-of-two scales as they are printed, over matrices of any size: the number whose exponent is taken, the count, the
  reference's table, and that the numbers are in range where the elements are.
-/
module

public import proofs.«01_k».proof.Proof.Pow2

@[expose] public section

noncomputable section

open scoped BigOperators

namespace Cert.Shared

open Idealize.ShloMosaic Idealize.ShloMosaic.ValueIdx

/-- The number whose exponent gives row `r`'s scale: its greatest magnitude times 1/57344 as a float. -/
def rowX {M K : ℕ} (v : (⟨2, ![M, K]⟩ : Shape).Idx → EReal) (r : Fin M) : EReal :=
  rowMax (fun i => max (v i) (-v i)) r * Ideal.ofBits .f32 0x37924925#32

theorem rowX_apply {M K : ℕ} (v : FVec Ideal ⟨2, ![M, K]⟩ .f32) (h1 : Shape.Reduces ⟨2, ![M, K]⟩ [1] ⟨1, ![M]⟩)
    (h2 : (⟨1, ![M]⟩ : Shape).ShapeCasts ⟨2, ![M, 1]⟩) (r : Fin M) :
    mulf (shapeCast ⟨2, ![M, 1]⟩ (multiReduction .maximumf [1] ⟨1, ![M]⟩ (absf v) 0xFF800000#32 h1 (.inl rfl) rfl) h2)
      (broadcast ⟨2, ![M, 1]⟩ (Scalar.ofBits (F := Ideal) .f32 0x37924925#32)) (ix2 r 0) = rowX v r := by
  rw [mulf_apply, asCol_apply, rowMax_eq]
  rfl

/-- The sum of integers by rows. -/
theorem rowCount_eq {M : ℕ} (x : IVec ⟨2, ![M, 256]⟩ 32) (h : Shape.Reduces ⟨2, ![M, 256]⟩ [1] ⟨1, ![M]⟩) (r : Fin M) :
    multiReductionI .add [1] ⟨1, ![M]⟩ x 0#32 h rfl (ix1 r)
      = (Finset.univ : Finset (Fin 256)).fold (IKind.add).op 0#32 fun k => x (ix2 r k) := by
  refine (multiReductionI_eq_fold .add _ _ h rfl (ix1 r)).trans ((h.fold_filter_drop_single _ _ _ _).trans ?_)
  refine congrArg (Finset.fold (IKind.add).op 0#32 · Finset.univ) (funext fun k => congrArg x (funext fun a => Fin.ext ?_))
  match a with | ⟨0, _⟩ => rfl | ⟨1, _⟩ => rfl

/-- The minimum by rows. -/
theorem rowMin_eq {M : ℕ} (x : FVec Ideal ⟨2, ![M, 256]⟩ .f32) (h : Shape.Reduces ⟨2, ![M, 256]⟩ [1] ⟨1, ![M]⟩) (r : Fin M) :
    multiReduction .minimumf [1] ⟨1, ![M]⟩ x 0x7F800000#32 h (.inl rfl) rfl (ix1 r)
      = (Finset.univ : Finset (Fin 256)).fold (min : EReal → EReal → EReal) (Ideal.ofBits .f32 0x7F800000#32) fun k => x (ix2 r k) := by
  haveI : Std.Commutative (FloatOps.minimumf (F := Ideal) (φ := .f32)) := ⟨fun a b => min_comm (α := EReal) a b⟩
  haveI : Std.Associative (FloatOps.minimumf (F := Ideal) (φ := .f32)) := ⟨fun a b c => min_assoc (α := EReal) a b c⟩
  refine (multiReduction_minimumf_eq_fold _ _ h (.inl rfl) rfl (ix1 r)).trans ((h.fold_filter_drop_single _ _ _ _).trans ?_)
  refine congrArg (Finset.fold min _ · Finset.univ) (funext fun k => congrArg x (funext fun a => Fin.ext ?_))
  match a with | ⟨0, _⟩ => rfl | ⟨1, _⟩ => rfl

theorem iota_row {M : ℕ} (h : (⟨2, ![M, 256]⟩ : Shape).Iotas .tc 32 [1]) (r : Fin M) (k : Fin 256) :
    iota .tc ⟨2, ![M, 256]⟩ 32 [1] h (ix2 r k) = BitVec.ofNat 32 k.val := by
  show BitVec.ofNat 32 (0 * 256 + k.val) = _
  rw [Nat.zero_mul, Nat.zero_add]

/-- The printed count, at a row. -/
theorem count_apply {M : ℕ} (x : FVec Ideal ⟨2, ![M, 1]⟩ .f32) (hI : (⟨2, ![M, 256]⟩ : Shape).Iotas .tc 32 [1])
    (hB : (⟨2, ![M, 1]⟩ : Shape).Broadcasts ⟨2, ![M, 256]⟩) (hR : Shape.Reduces ⟨2, ![M, 256]⟩ [1] ⟨1, ![M]⟩)
    (hC : (⟨1, ![M]⟩ : Shape).ShapeCasts ⟨2, ![M, 1]⟩) (r : Fin M) :
    shapeCast ⟨2, ![M, 1]⟩ (multiReductionI .add [1] ⟨1, ![M]⟩
      (select (andi (cmpi .sgt (iota .tc ⟨2, ![M, 256]⟩ 32 [1] hI) (broadcast ⟨2, ![M, 256]⟩ 0#32))
          (cmpf .ole (bitcastToFloat .f32 (shli (iota .tc ⟨2, ![M, 256]⟩ 32 [1] hI) (broadcast ⟨2, ![M, 256]⟩ 23#32)))
            (broadcastTo ⟨2, ![M, 256]⟩ x hB)))
        (broadcast ⟨2, ![M, 256]⟩ 1#32) (broadcast ⟨2, ![M, 256]⟩ 0#32)) 0#32 hR rfl) hC (ix2 r 0)
      = (Finset.univ : Finset (Fin 256)).fold (IKind.add).op 0#32 (term (x (ix2 r 0))) := by
  rw [asCol_apply, rowCount_eq]
  refine congrArg (Finset.fold (IKind.add).op 0#32 · Finset.univ) (funext fun (k : Fin 256) => ?_)
  unfold term
  rw [← iota_row hI r k, ← column_apply x hB r k]
  rfl

/-- The printed exponent, at a row. -/
theorem expo_apply {M : ℕ} (x : FVec Ideal ⟨2, ![M, 1]⟩ .f32) (hI : (⟨2, ![M, 256]⟩ : Shape).Iotas .tc 32 [1])
    (hB : (⟨2, ![M, 1]⟩ : Shape).Broadcasts ⟨2, ![M, 256]⟩) (hR : Shape.Reduces ⟨2, ![M, 256]⟩ [1] ⟨1, ![M]⟩)
    (hC : (⟨1, ![M]⟩ : Shape).ShapeCasts ⟨2, ![M, 1]⟩) (r : Fin M) :
    select (cmpf .oeq x (broadcast ⟨2, ![M, 1]⟩ (Scalar.ofBits (F := Ideal) .f32 0x00000000#32))) (broadcast ⟨2, ![M, 1]⟩ 0#32)
      (subi (shapeCast ⟨2, ![M, 1]⟩ (multiReductionI .add [1] ⟨1, ![M]⟩
        (select (andi (cmpi .sgt (iota .tc ⟨2, ![M, 256]⟩ 32 [1] hI) (broadcast ⟨2, ![M, 256]⟩ 0#32))
            (cmpf .ole (bitcastToFloat .f32 (shli (iota .tc ⟨2, ![M, 256]⟩ 32 [1] hI) (broadcast ⟨2, ![M, 256]⟩ 23#32)))
              (broadcastTo ⟨2, ![M, 256]⟩ x hB)))
          (broadcast ⟨2, ![M, 256]⟩ 1#32) (broadcast ⟨2, ![M, 256]⟩ 0#32)) 0#32 hR rfl) hC)
        (broadcast ⟨2, ![M, 1]⟩ 126#32)) (ix2 r 0) = expo (x (ix2 r 0)) := by
  unfold expo
  rw [← count_apply x hI hB hR hC r]
  rfl

/-- The reference's printed scale, at a row. -/
theorem least_apply {M : ℕ} (x : FVec Ideal ⟨2, ![M, 1]⟩ .f32) (hI : (⟨2, ![M, 256]⟩ : Shape).Iotas .tc 32 [1])
    (hB : (⟨2, ![M, 1]⟩ : Shape).Broadcasts ⟨2, ![M, 256]⟩) (hR : Shape.Reduces ⟨2, ![M, 256]⟩ [1] ⟨1, ![M]⟩)
    (hC : (⟨1, ![M]⟩ : Shape).ShapeCasts ⟨2, ![M, 1]⟩) (r : Fin M) :
    select (cmpf .oeq x (broadcast ⟨2, ![M, 1]⟩ (Scalar.ofBits (F := Ideal) .f32 0x00000000#32)))
      (broadcast ⟨2, ![M, 1]⟩ (Scalar.ofBits (F := Ideal) .f32 0x3F800000#32))
      (shapeCast ⟨2, ![M, 1]⟩ (multiReduction .minimumf [1] ⟨1, ![M]⟩
        (select (cmpf .ogt (exp2 (subf (sitofp (F := Ideal) .f32 (iota .tc ⟨2, ![M, 256]⟩ 32 [1] hI))
              (broadcast ⟨2, ![M, 256]⟩ (Scalar.ofBits (F := Ideal) .f32 0x42FC0000#32)))) (broadcastTo ⟨2, ![M, 256]⟩ x hB))
          (exp2 (subf (sitofp (F := Ideal) .f32 (iota .tc ⟨2, ![M, 256]⟩ 32 [1] hI))
              (broadcast ⟨2, ![M, 256]⟩ (Scalar.ofBits (F := Ideal) .f32 0x42FC0000#32))))
          (broadcast ⟨2, ![M, 256]⟩ (Scalar.ofBits (F := Ideal) .f32 0x7F800000#32))) 0x7F800000#32 hR (.inl rfl) rfl) hC) (ix2 r 0)
      = least (x (ix2 r 0)) := by
  unfold least
  rw [select_apply, asCol_apply, rowMin_eq]
  refine congrArg (Scalar.select _ _) (congrArg (Finset.fold min (Ideal.ofBits .f32 0x7F800000#32) · Finset.univ)
    (funext fun (k : Fin 256) => ?_))
  unfold entry
  rw [← iota_row hI r k, ← column_apply x hB r k]
  rfl

/-- The printed codes over a divided scale, at an element. -/
theorem quot_apply {M K : ℕ} (φ : FTy) (hφ : φ.bits < FTy.bits .f32) (lo hi : BitVec 32) (v : FVec Ideal ⟨2, ![M, K]⟩ .f32)
    (s : FVec Ideal ⟨2, ![M, 1]⟩ .f32) (h : (⟨2, ![M, 1]⟩ : Shape).Broadcasts ⟨2, ![M, K]⟩) (r : Fin M) (k : Fin K) :
    truncf φ (minimumf (broadcast ⟨2, ![M, K]⟩ (Scalar.ofBits (F := Ideal) .f32 hi))
      (maximumf (broadcast ⟨2, ![M, K]⟩ (Scalar.ofBits (F := Ideal) .f32 lo))
        (mulf v (broadcastTo ⟨2, ![M, K]⟩ (divf (broadcast ⟨2, ![M, 1]⟩ (Scalar.ofBits (F := Ideal) .f32 0x3F800000#32)) s) h)))) hφ (ix2 r k)
      = min (Ideal.ofBits .f32 hi) (max (Ideal.ofBits .f32 lo) (v (ix2 r k) * Ideal.div 1 (s (ix2 r 0)))) := by
  rw [← bits_one]
  have e := column_apply (divf (broadcast ⟨2, ![M, 1]⟩ (Scalar.ofBits (F := Ideal) .f32 0x3F800000#32)) s) h r k
  refine Eq.trans ?_ (congrArg (fun z : EReal => min (Ideal.ofBits .f32 hi) (max (Ideal.ofBits .f32 lo) (v (ix2 r k) * z))) e)
  rfl

/-- The printed product of codes and weight, times the row's scale, times one number, at an element. -/
theorem scaled_apply {M K N : ℕ} {φ₁ φ₂ : FTy} (x : FVec Ideal ⟨2, ![M, K]⟩ φ₁) (w : FVec Ideal ⟨2, ![N, K]⟩ φ₂)
    (s : FVec Ideal ⟨2, ![M, 1]⟩ .f32) (ws : Ideal .f32) (h : (⟨2, ![M, 1]⟩ : Shape).Broadcasts ⟨2, ![M, N]⟩) (r : Fin M) (c : Fin N) :
    mulf (mulf (matmul (DotDims.transposedRhs M K N) none x w (constant (F := Ideal) ⟨2, ![M, N]⟩ .f32 0x00000000#32))
        (broadcastTo ⟨2, ![M, N]⟩ s h)) (broadcast ⟨2, ![M, N]⟩ ws) (ix2 r c)
      = ((∑ k : Fin K, x (ix2 r k) * w (ix2 c k)) * s (ix2 r 0) * ws : EReal) := by
  rw [mulf_apply, mulf_apply, column_apply]
  exact congrArg (fun z : EReal => z * s (ix2 r 0) * ws) (transposedRhs_apply none x w r c)

/-! ## The range -/

/-- The greatest finite bf16. -/
def top : ℝ := 255 * (2 : ℝ) ^ (120 : ℤ)

theorem bits_finite : Ideal.ofBits .f32 0x7F7F0000#32 = (top : EReal) := by
  unfold top
  simp [Ideal.ofBits, Ideal.ieee, -EReal.coe_mul]
  norm_num

theorem bits_inv : ∃ c : ℝ, 0 < c ∧ c ≤ 1 / 4 ∧ Ideal.ofBits .f32 0x37924925#32 = (c : EReal) := by
  refine ⟨9586981 * (2 : ℝ) ^ (-39 : ℤ), by positivity, by norm_num, ?_⟩
  simp [Ideal.ofBits, Ideal.ieee, -EReal.coe_mul]

/-- A comparison for at most that answers 1 is the inequality. -/
theorem le_of_cmp {a b : EReal} (h : Ideal.cmp .ole a b = 1#1) : a ≤ b := by
  by_contra hne
  simp [Ideal.cmp, hne] at h

/-- Where a row's elements are finite bf16 numbers, the number that gives its scale is below 2^126. -/
theorem rowX_lt {M K : ℕ} (v : (⟨2, ![M, K]⟩ : Shape).Idx → EReal) (r : Fin M)
    (h : ∀ k : Fin K, max (v (ix2 r k)) (-v (ix2 r k)) ≤ (top : EReal)) : rowX v r < two 126 := by
  obtain ⟨c, c0, c1, e⟩ := bits_inv
  have hm : rowMax (fun i => max (v i) (-v i)) r ≤ (top : EReal) := by
    unfold rowMax
    refine (Finset.fold_max_le _).mpr ⟨?_, fun k _ => h k⟩
    rw [show Ideal.ofBits .f32 0xFF800000#32 = (⊥ : EReal) by simp [Ideal.ofBits, Ideal.ieee]]
    exact bot_le
  unfold rowX
  rw [e]
  generalize rowMax (fun i => max (v i) (-v i)) r = a at hm
  induction a using EReal.rec with
  | bot => rw [EReal.bot_mul_coe_of_pos c0]; exact EReal.bot_lt_coe _
  | top => exact absurd hm (by simp)
  | coe a =>
    unfold two
    rw [← EReal.coe_mul, EReal.coe_lt_coe_iff]
    rw [EReal.coe_le_coe_iff] at hm
    have hp : (0 : ℝ) < 2 ^ (126 : ℤ) := by positivity
    have ht : top < 4 * 2 ^ (126 : ℤ) := by unfold top; norm_num
    rcases le_or_gt a 0 with ha | ha
    · nlinarith
    · nlinarith

end Cert.Shared

end
-- ==== Proof.DynValue.lean ====
/-
  The call `dyn`, at the exact values: what its run leaves in its four results, and that the reference's run leaves the same
  where the gradients are finite bf16 numbers.  A grid point holds 512 rows of the gradient and the whole weight; a
  row's scale and codes depend on that row alone, so the blocks of rows put together are the whole arrays.
-/
module

public import proofs.«01_k».proof.Defs
public import proofs.«01_k».proof.Proof.Gen.DynIdeal.Value
public import proofs.«01_k».proof.Proof.Gen.DynRefIdeal.Value
public import proofs.«01_k».proof.Proof.Gen.Pre_dy_finite
public import proofs.«01_k».proof.Proof.Pow2Rows

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DynProof

open Cert.DynIdeal Cert.DynIdeal.Gen Cert.Shared

/-- A row's scale: the least power of two above its greatest magnitude over 57344, and 1 for a row of zeros. -/
def S {M : ℕ} (v : (⟨2, ![M, 2048]⟩ : Shape).Idx → EReal) (r : Fin M) : EReal := least (rowX v r)

/-- The code of an element: the element over its row's scale, clipped. -/
def Q {M : ℕ} (v : (⟨2, ![M, 2048]⟩ : Shape).Idx → EReal) (r : Fin M) (k : Fin 2048) : EReal :=
  min (Ideal.ofBits .f32 0x47600000#32) (max (Ideal.ofBits .f32 0xC7600000#32) (v (ix2 r k) * Ideal.div 1 (S v r)))

/-- The codes times the weight, times the row's scale, times the weight's scale. -/
def P {M : ℕ} (v : (⟨2, ![M, 2048]⟩ : Shape).Idx → EReal) (w : (⟨2, ![4096, 2048]⟩ : Shape).Idx → EReal) (ws : EReal)
    (r : Fin M) (c : Fin 4096) : EReal :=
  (∑ k : Fin 2048, Q v r k * w (ix2 c k)) * S v r * ws

theorem S_eq {M : ℕ} (v : (⟨2, ![M, 2048]⟩ : Shape).Idx → EReal) (r : Fin M) (h : rowX v r < two 126) :
    S v r = two ((bexp (rowX v r) : ℤ) - 126) := least_eq _ h

theorem Q_eq {M : ℕ} (v : (⟨2, ![M, 2048]⟩ : Shape).Idx → EReal) (r : Fin M) (k : Fin 2048) (h : rowX v r < two 126) :
    Q v r k = min (Ideal.ofBits .f32 0x47600000#32)
      (max (Ideal.ofBits .f32 0xC7600000#32) (v (ix2 r k) * two (126 - (bexp (rowX v r) : ℤ)))) := by
  unfold Q
  rw [S_eq v r h, two_inv, neg_sub]

/-! ## The kernel's payloads at an index -/

theorem pay4_eq (v0 : Vec Ideal S512x2048 .bf16) : k0_pay4 v0 = v0 := rfl

theorem pay5_apply (v0 : Vec Ideal S512x2048 .bf16) (r : Fin 512) :
    k0_pay5 v0 (ix2 r 0) = expo (rowX (M := 512) (K := 2048) v0 r) := by
  unfold k0_pay5
  rw [pay4_eq]
  exact (expo_apply _ _ _ _ _ r).trans (congrArg expo (rowX_apply _ _ _ r))

theorem pay6_apply (v0 : Vec Ideal S512x2048 .bf16) (r : Fin 512) (h : rowX (M := 512) (K := 2048) v0 r < two 126) :
    k0_pay6 v0 (ix2 r 0) = S (M := 512) v0 r := by
  show Ideal.ofBits .f32 (IntOp.shli .vector (IntOp.addi (k0_pay5 v0 (ix2 r 0)) 127#32) 23#32) = _
  rw [pay5_apply, scale_bits _ h, S_eq _ _ h]

theorem pay7_apply (v0 : Vec Ideal S512x2048 .bf16) (r : Fin 512) (k : Fin 2048) (h : rowX (M := 512) (K := 2048) v0 r < two 126) :
    k0_pay7 v0 (ix2 r k) = max (Ideal.ofBits .f32 0xC7600000#32)
      (v0 (ix2 r k) * two (126 - (bexp (rowX (M := 512) (K := 2048) v0 r) : ℤ))) := by
  unfold k0_pay7
  rw [pay4_eq, maximumf_apply, mulf_apply, column_apply]
  show max (Ideal.ofBits .f32 0xC7600000#32)
    (v0 (ix2 r k) * Ideal.ofBits .f32 (IntOp.shli .vector (IntOp.subi 127#32 (k0_pay5 v0 (ix2 r 0))) 23#32)) = _
  rw [pay5_apply, inv_bits _ h]

/-- The codes. -/
abbrev codes (v0 : Vec Ideal S512x2048 .bf16) : FVec Ideal S512x2048 .fp8e5m2 :=
  k0_pay1 (Scalar.ofBits .f32 0x47600000#32) (k0_pay7 v0)

theorem codes_apply (v0 : Vec Ideal S512x2048 .bf16) (r : Fin 512) (k : Fin 2048) (h : rowX (M := 512) (K := 2048) v0 r < two 126) :
    codes v0 (ix2 r k) = Q (M := 512) v0 r k := by
  show min (Ideal.ofBits .f32 0x47600000#32) (k0_pay7 v0 (ix2 r k)) = _
  rw [pay7_apply _ _ _ h, Q_eq _ _ _ h]

theorem pay2_apply (v0 : Vec Ideal S512x2048 .bf16) (r : Fin 512) (k : Fin 2048) (h : rowX (M := 512) (K := 2048) v0 r < two 126) :
    k0_pay2 (k0_pay6 v0) (Scalar.ofBits .f32 0x47600000#32) (k0_pay7 v0) (ix2 r k) = (Q (M := 512) v0 r k * S (M := 512) v0 r : EReal) := by
  unfold k0_pay2
  refine (unpack_apply .fp8e5m2 _ _ _ _ _ r k).trans ?_
  rw [pay6_apply _ _ h]
  exact congrArg (· * _) (codes_apply v0 r k h)

theorem dot_eq : dot_S512x2048_S4096x2048_S512x4096_1_1_0_0_n_n = DotDims.transposedRhs 512 2048 4096 := rfl

theorem pay3_apply (v0 : Vec Ideal S512x2048 .bf16) (w : Vec Ideal S4096x2048 .fp8e4m3) (ws : Elt Ideal .f32) (r : Fin 512) (c : Fin 4096)
    (h : rowX (M := 512) (K := 2048) v0 r < two 126) :
    k0_pay3 (k0_pay6 v0) (Scalar.ofBits .f32 0x47600000#32) (k0_pay7 v0) w ws (ix2 r c) = P (M := 512) v0 w ws r c := by
  unfold k0_pay3
  rw [dot_eq]
  refine (scaled_apply (φ₁ := .fp8e5m2) (φ₂ := .fp8e4m3) (codes v0) w (k0_pay6 v0) ws _ r c).trans ?_
  unfold P
  rw [pay6_apply _ _ h]
  exact congrArg (fun z : EReal => z * S (M := 512) v0 r * ws)
    (Finset.sum_congr rfl fun k _ => congrArg (fun z : EReal => z * w (ix2 c k)) (codes_apply v0 r k h))

/-! ## The reference's payloads at an index -/

theorem refPay2_eq (v0 : Vec Ideal S5120x2048 .bf16) : Cert.DynRefIdeal.Gen.k0_pay2 v0 = v0 := rfl

theorem refPay3_apply (v0 : Vec Ideal S5120x2048 .bf16) (r : Fin 5120) :
    Cert.DynRefIdeal.Gen.k0_pay3 v0 (ix2 r 0) = S (M := 5120) v0 r := by
  unfold Cert.DynRefIdeal.Gen.k0_pay3
  rw [refPay2_eq]
  exact (least_apply _ _ _ _ _ r).trans (congrArg least (rowX_apply _ _ _ r))

theorem refPay4_apply (v0 : Vec Ideal S5120x2048 .bf16) (r : Fin 5120) (k : Fin 2048) :
    Cert.DynRefIdeal.Gen.k0_pay4 v0 (ix2 r k) = Q (M := 5120) v0 r k := by
  unfold Cert.DynRefIdeal.Gen.k0_pay4
  rw [refPay2_eq]
  refine (quot_apply .fp8e5m2 _ _ _ v0 (Cert.DynRefIdeal.Gen.k0_pay3 v0) _ r k).trans ?_
  rw [refPay3_apply]
  unfold Q
  rfl

theorem refPay5_apply (v0 : Vec Ideal S5120x2048 .bf16) (r : Fin 5120) (k : Fin 2048) :
    Cert.DynRefIdeal.Gen.k0_pay5 v0 (ix2 r k) = (Q (M := 5120) v0 r k * S (M := 5120) v0 r : EReal) := by
  unfold Cert.DynRefIdeal.Gen.k0_pay5
  refine (unpack_apply .fp8e5m2 _ _ _ _ _ r k).trans ?_
  rw [refPay3_apply, refPay4_apply]

theorem refDot_eq : Cert.DynRefIdeal.dot_S5120x2048_S4096x2048_S5120x4096_1_1_0_0_n_n = DotDims.transposedRhs 5120 2048 4096 := rfl

theorem refPay1_apply (v0 : Vec Ideal S5120x2048 .bf16) (w : Vec Ideal S4096x2048 .fp8e4m3) (ws : Vec Ideal S1x1 .f32)
    (r : Fin 5120) (c : Fin 4096) :
    Cert.DynRefIdeal.Gen.k0_pay1 (Cert.DynRefIdeal.Gen.k0_pay3 v0) (Cert.DynRefIdeal.Gen.k0_pay4 v0) w ws (ix2 r c)
      = P (M := 5120) v0 w (ws (ix2 0 0)) r c := by
  unfold Cert.DynRefIdeal.Gen.k0_pay1
  rw [refDot_eq]
  refine (scaled_apply (φ₁ := .fp8e5m2) (φ₂ := .fp8e4m3) (Cert.DynRefIdeal.Gen.k0_pay4 v0) w (Cert.DynRefIdeal.Gen.k0_pay3 v0) _ _ r c).trans ?_
  unfold P
  have e : (fun a => ⟨![0, 0] a, Cert.DynRefIdeal.Gen.inpos_S1x1_p0_0 a⟩ : S1x1.Idx) = ix2 0 0 := by
    funext a; match a with | ⟨0, _⟩ => rfl | ⟨1, _⟩ => rfl
  rw [refPay3_apply]
  exact congrArg₂ (fun a b : EReal => a * S (M := 5120) v0 r * b)
    (Finset.sum_congr rfl fun k _ => congrArg (fun z : EReal => z * w (ix2 c k)) (refPay4_apply v0 r k)) (congrArg ws e)

/-! ## What a point leaves in the results' buffers -/

theorem out3_eq (c : Dev nD) (i : grid0.Coords) (a1 : Memref sig .tc .vmem S512x2048 .bf16) (h1 : a1.IsWhole)
    (a2 : Memref sig .tc .vmem S4096x2048 .fp8e4m3) (h2 : a2.IsWhole) (a3 : Memref sig .tc .smem S1x1 .f32) (h3 : a3.IsWhole)
    (a4 : Memref sig .tc .vmem S512x4096 .f32) (h4 : a4.IsWhole) (a5 : Memref sig .tc .vmem S512x2048 .fp8e5m2) (h5 : a5.IsWhole)
    (a6 : Memref sig .tc .vmem S512x1 .f32) (h6 : a6.IsWhole) (a7 : Memref sig .tc .vmem S512x2048 .bf16) (h7 : a7.IsWhole)
    (x0 : Vec Ideal S512x2048 .bf16) (x1 : Vec Ideal S4096x2048 .fp8e4m3) (x2 : Vec Ideal S1x1 .f32) :
    out0_A_3 c i a1 h1 a2 h2 a3 h3 a4 h4 a5 h5 a6 h6 a7 h7 x0 x1 x2 = k0_pay3 (k0_pay6 x0) (Scalar.ofBits .f32 0x47600000#32) (k0_pay7 x0) x1 (x2 (ix2 0 0)) := by
  unfold out0_A_3
  rw [View.read_writes_junk_eq_canon]
  unfold kernelRun0_A
  dsimp only
  sl_unfold_words
  rw [View.canon_unit_zero hz2]
  simp only [View.readAt_eq_ld, h1.read_unread, h2.read_unread, h3.read_unread, View.ld_unit_zero (S := S512x2048) hz2,
    View.ld_unit_zero (S := S4096x2048) hz2]
  refine congrArg (k0_pay3 (k0_pay6 x0) (Scalar.ofBits .f32 0x47600000#32) (k0_pay7 x0) x1) (congrArg x2 (funext fun a => ?_))
  match a with | ⟨0, _⟩ => rfl | ⟨1, _⟩ => rfl

theorem out4_eq (c : Dev nD) (i : grid0.Coords) (a1 : Memref sig .tc .vmem S512x2048 .bf16) (h1 : a1.IsWhole)
    (a2 : Memref sig .tc .vmem S4096x2048 .fp8e4m3) (h2 : a2.IsWhole) (a3 : Memref sig .tc .smem S1x1 .f32) (h3 : a3.IsWhole)
    (a4 : Memref sig .tc .vmem S512x4096 .f32) (h4 : a4.IsWhole) (a5 : Memref sig .tc .vmem S512x2048 .fp8e5m2) (h5 : a5.IsWhole)
    (a6 : Memref sig .tc .vmem S512x1 .f32) (h6 : a6.IsWhole) (a7 : Memref sig .tc .vmem S512x2048 .bf16) (h7 : a7.IsWhole)
    (x0 : Vec Ideal S512x2048 .bf16) (x1 : Vec Ideal S4096x2048 .fp8e4m3) (x2 : Vec Ideal S1x1 .f32) :
    out0_A_4 c i a1 h1 a2 h2 a3 h3 a4 h4 a5 h5 a6 h6 a7 h7 x0 x1 x2 = codes x0 := by
  unfold out0_A_4
  rw [View.read_writes_junk_eq_canon]
  unfold kernelRun0_A
  dsimp only
  sl_unfold_words
  rw [View.canon_unit_zero hz2]
  simp only [View.readAt_eq_ld, h1.read_unread, View.ld_unit_zero (S := S512x2048) hz2]

theorem out5_eq (c : Dev nD) (i : grid0.Coords) (a1 : Memref sig .tc .vmem S512x2048 .bf16) (h1 : a1.IsWhole)
    (a2 : Memref sig .tc .vmem S4096x2048 .fp8e4m3) (h2 : a2.IsWhole) (a3 : Memref sig .tc .smem S1x1 .f32) (h3 : a3.IsWhole)
    (a4 : Memref sig .tc .vmem S512x4096 .f32) (h4 : a4.IsWhole) (a5 : Memref sig .tc .vmem S512x2048 .fp8e5m2) (h5 : a5.IsWhole)
    (a6 : Memref sig .tc .vmem S512x1 .f32) (h6 : a6.IsWhole) (a7 : Memref sig .tc .vmem S512x2048 .bf16) (h7 : a7.IsWhole)
    (x0 : Vec Ideal S512x2048 .bf16) (x1 : Vec Ideal S4096x2048 .fp8e4m3) (x2 : Vec Ideal S1x1 .f32) :
    out0_A_5 c i a1 h1 a2 h2 a3 h3 a4 h4 a5 h5 a6 h6 a7 h7 x0 x1 x2 = k0_pay6 x0 := by
  unfold out0_A_5
  rw [View.read_writes_junk_eq_canon]
  unfold kernelRun0_A
  dsimp only
  sl_unfold_words
  rw [View.canon_unit_zero hz2]
  simp only [View.readAt_eq_ld, h1.read_unread, View.ld_unit_zero (S := S512x2048) hz2]

theorem out6_eq (c : Dev nD) (i : grid0.Coords) (a1 : Memref sig .tc .vmem S512x2048 .bf16) (h1 : a1.IsWhole)
    (a2 : Memref sig .tc .vmem S4096x2048 .fp8e4m3) (h2 : a2.IsWhole) (a3 : Memref sig .tc .smem S1x1 .f32) (h3 : a3.IsWhole)
    (a4 : Memref sig .tc .vmem S512x4096 .f32) (h4 : a4.IsWhole) (a5 : Memref sig .tc .vmem S512x2048 .fp8e5m2) (h5 : a5.IsWhole)
    (a6 : Memref sig .tc .vmem S512x1 .f32) (h6 : a6.IsWhole) (a7 : Memref sig .tc .vmem S512x2048 .bf16) (h7 : a7.IsWhole)
    (x0 : Vec Ideal S512x2048 .bf16) (x1 : Vec Ideal S4096x2048 .fp8e4m3) (x2 : Vec Ideal S1x1 .f32) :
    out0_A_6 c i a1 h1 a2 h2 a3 h3 a4 h4 a5 h5 a6 h6 a7 h7 x0 x1 x2 = k0_pay2 (k0_pay6 x0) (Scalar.ofBits .f32 0x47600000#32) (k0_pay7 x0) := by
  unfold out0_A_6
  rw [View.read_writes_junk_eq_canon]
  unfold kernelRun0_A
  dsimp only
  sl_unfold_words
  rw [View.canon_unit_zero hz2]
  simp only [View.readAt_eq_ld, h1.read_unread, View.ld_unit_zero (S := S512x2048) hz2]

variable (m : (ℓ : Loc nD τ sig) → Buf (Elt Ideal) ℓ) (ρ : Dev nD → PrngReg)

/-- Where the windows stand at a point: the row windows at block row `t`, the others at zero. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row `r` of block `t`. -/
def rowAt (t : Fin cfg0.N) (r : Fin 512) : Fin 5120 := ⟨t.val * 512 + r.val, by
  have ht : t.val < 10 := t.isLt
  have := r.isLt; omega⟩

theorem iblk0_apply (c : Dev nD) (t : Fin cfg0.N) (r : Fin 512) (k : Fin 2048) :
    iblk m c 0 t (ix2 r k) = m ((c : Thread nD τ).loc main_arg0) (ix2 (rowAt t r) k) := by
  rw [← V_main_arg0 m c]
  show V m c main_arg0 (((cfg0.win 0).blk t).view.emb (ix2 r k)) = _
  obtain ⟨⟨e0, e1⟩, -⟩ := idx t
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * k.val = k.val; omega

theorem iblk1_apply (c : Dev nD) (t : Fin cfg0.N) (r : Fin 4096) (k : Fin 2048) :
    iblk m c 1 t (ix2 r k) = m ((c : Thread nD τ).loc main_arg1) (ix2 r k) := by
  rw [← V_main_arg1 m c]
  show V m c main_arg1 (((cfg0.win 1).blk t).view.emb (ix2 r k)) = _
  obtain ⟨-, ⟨e0, e1⟩, -⟩ := idx t
  refine congrArg _ (funext fun a => Fin.ext ?_)
  match a with
  | ⟨0, _⟩ => show win0_1.index t (0 : Fin 2) * 4096 + 1 * r.val = r.val; omega
  | ⟨1, _⟩ => show win0_1.index t (1 : Fin 2) * 2048 + 1 * k.val = k.val; omega

theorem iblk2_apply (c : Dev nD) (t : Fin cfg0.N) :
    iblk m c 2 t (ix2 (0 : Fin 1) (0 : Fin 1)) = m ((c : Thread nD τ).loc main_arg2) (ix2 (0 : Fin 1) (0 : Fin 1)) := by
  rw [← V_main_arg2 m c]
  show V m c main_arg2 (((cfg0.win 2).blk t).view.emb (ix2 (0 : Fin 1) (0 : Fin 1))) = _
  obtain ⟨-, -, ⟨e0, e1⟩, -⟩ := idx t
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

theorem emb3 (t : Fin cfg0.N) (r : Fin 512) (k : Fin 4096) :
    ((cfg0.win 3).blk t).view.emb (ix2 r k) = ix2 (rowAt t r) k := by
  obtain ⟨-, -, -, ⟨e0, e1⟩, -⟩ := idx t
  funext a; apply Fin.ext
  match a with
  | ⟨0, _⟩ => show win0_3.index t (0 : Fin 2) * 512 + 1 * r.val = t.val * 512 + r.val; omega
  | ⟨1, _⟩ => show win0_3.index t (1 : Fin 2) * 4096 + 1 * k.val = k.val; omega

theorem emb4 (t : Fin cfg0.N) (r : Fin 512) (k : Fin 2048) :
    ((cfg0.win 4).blk t).view.emb (ix2 r k) = ix2 (rowAt t r) k := by
  obtain ⟨-, -, -, -, ⟨e0, e1⟩, -⟩ := idx t
  funext a; apply Fin.ext
  match a with
  | ⟨0, _⟩ => show win0_4.index t (0 : Fin 2) * 512 + 1 * r.val = t.val * 512 + r.val; omega
  | ⟨1, _⟩ => show win0_4.index t (1 : Fin 2) * 2048 + 1 * k.val = k.val; omega

theorem emb5 (t : Fin cfg0.N) (r : Fin 512) (k : Fin 1) :
    ((cfg0.win 5).blk t).view.emb (ix2 r k) = ix2 (rowAt t r) k := by
  obtain ⟨-, -, -, -, -, ⟨e0, e1⟩, -⟩ := idx t
  funext a; apply Fin.ext
  match a with
  | ⟨0, _⟩ => show win0_5.index t (0 : Fin 2) * 512 + 1 * r.val = t.val * 512 + r.val; omega
  | ⟨1, _⟩ => show win0_5.index t (1 : Fin 2) * 1 + 1 * k.val = k.val; omega

theorem emb6 (t : Fin cfg0.N) (r : Fin 512) (k : Fin 2048) :
    ((cfg0.win 6).blk t).view.emb (ix2 r k) = ix2 (rowAt t r) k := by
  obtain ⟨-, -, -, -, -, -, e0, e1⟩ := idx t
  funext a; apply Fin.ext
  match a with
  | ⟨0, _⟩ => show win0_6.index t (0 : Fin 2) * 512 + 1 * r.val = t.val * 512 + r.val; omega
  | ⟨1, _⟩ => show win0_6.index t (1 : Fin 2) * 2048 + 1 * k.val = k.val; omega

/-- Every row is a row of a block. -/
theorem exists_row (r : Fin 5120) : ∃ (t : Fin cfg0.N) (q : Fin 512), rowAt t q = r := by
  have hr := r.isLt
  refine ⟨⟨r.val / 512, by show r.val / 512 < 10; omega⟩, ⟨r.val % 512, by omega⟩, Fin.ext ?_⟩
  show r.val / 512 * 512 + r.val % 512 = r.val
  omega

/-- The gradient as launched. -/
abbrev dy (c : Dev nD) : (⟨2, ![5120, 2048]⟩ : Shape).Idx → EReal := m ((c : Thread nD τ).loc main_arg0)

/-- A row's number is that of the block's row. -/
theorem rowX_blk (c : Dev nD) (t : Fin cfg0.N) (r : Fin 512) :
    rowX (M := 512) (K := 2048) (iblk m c 0 t) r = rowX (dy m c) (rowAt t r) := by
  unfold rowX rowMax
  simp only [iblk0_apply]

theorem S_blk (c : Dev nD) (t : Fin cfg0.N) (r : Fin 512) : S (M := 512) (iblk m c 0 t) r = S (dy m c) (rowAt t r) := by
  unfold S
  rw [rowX_blk]

theorem Q_blk (c : Dev nD) (t : Fin cfg0.N) (r : Fin 512) (k : Fin 2048) :
    Q (M := 512) (iblk m c 0 t) r k = Q (dy m c) (rowAt t r) k := by
  unfold Q
  rw [S_blk, iblk0_apply]

/-- The product as launched. -/
abbrev res (c : Dev nD) (r : Fin 5120) (k : Fin 4096) : EReal :=
  P (dy m c) (m ((c : Thread nD τ).loc main_arg1)) (m ((c : Thread nD τ).loc main_arg2) (ix2 (0 : Fin 1) (0 : Fin 1))) r k

theorem P_blk (c : Dev nD) (t : Fin cfg0.N) (r : Fin 512) (k : Fin 4096) :
    P (M := 512) (iblk m c 0 t) (iblk m c 1 t) (iblk m c 2 t (ix2 (0 : Fin 1) (0 : Fin 1))) r k = res m c (rowAt t r) k := by
  unfold res P
  rw [S_blk, iblk2_apply]
  simp only [Q_blk, iblk1_apply]

/-! ## The four results -/

theorem final3 (hx : ∀ c r, rowX (dy m c) r < two 126) (c : Dev nD) (r : Fin 5120) (k : Fin 4096) :
    (dats m 0 c).arrAt 3 cfg0.N (ix2 r k) = res m c r k := by
  obtain ⟨t, q, rfl⟩ := exists_row r
  have hq : rowX (M := 512) (K := 2048) (iblk m c 0 t) q < two 126 := by rw [rowX_blk]; exact hx c _
  have h := congrFun (Value.blocks3 m c t (flush0_3 t)) (ix2 q k)
  rw [Value.flushed3_A, out3_eq] at h
  have h' : (dats m 0 c).arrAt 3 cfg0.N (((cfg0.win 3).blk t).view.emb (ix2 q k))
      = k0_pay3 (k0_pay6 (iblk m c 0 t)) (Scalar.ofBits .f32 0x47600000#32) (k0_pay7 (iblk m c 0 t)) (iblk m c 1 t) (iblk m c 2 t (ix2 (0 : Fin 1) (0 : Fin 1))) (ix2 q k) := h
  rw [emb3] at h'
  rw [h', pay3_apply _ _ _ _ _ hq, P_blk]

theorem final4 (hx : ∀ c r, rowX (dy m c) r < two 126) (c : Dev nD) (r : Fin 5120) (k : Fin 2048) :
    (dats m 0 c).arrAt 4 cfg0.N (ix2 r k) = Q (dy m c) r k := by
  obtain ⟨t, q, rfl⟩ := exists_row r
  have hq : rowX (M := 512) (K := 2048) (iblk m c 0 t) q < two 126 := by rw [rowX_blk]; exact hx c _
  have h := congrFun (Value.blocks4 m c t (flush0_4 t)) (ix2 q k)
  rw [Value.flushed4_A, out4_eq] at h
  have h' : (dats m 0 c).arrAt 4 cfg0.N (((cfg0.win 4).blk t).view.emb (ix2 q k))
      = codes (iblk m c 0 t) (ix2 q k) := h
  rw [emb4] at h'
  rw [h', codes_apply _ _ _ hq, Q_blk]

theorem final5 (hx : ∀ c r, rowX (dy m c) r < two 126) (c : Dev nD) (r : Fin 5120) :
    (dats m 0 c).arrAt 5 cfg0.N (ix2 r (0 : Fin 1)) = S (dy m c) r := by
  obtain ⟨t, q, rfl⟩ := exists_row r
  have hq : rowX (M := 512) (K := 2048) (iblk m c 0 t) q < two 126 := by rw [rowX_blk]; exact hx c _
  have h := congrFun (Value.blocks5 m c t (flush0_5 t)) (ix2 q (0 : Fin 1))
  rw [Value.flushed5_A, out5_eq] at h
  have h' : (dats m 0 c).arrAt 5 cfg0.N (((cfg0.win 5).blk t).view.emb (ix2 q (0 : Fin 1)))
      = k0_pay6 (iblk m c 0 t) (ix2 q (0 : Fin 1)) := h
  rw [emb5] at h'
  rw [h', pay6_apply _ _ hq, S_blk]

theorem final6 (hx : ∀ c r, rowX (dy m c) r < two 126) (c : Dev nD) (r : Fin 5120) (k : Fin 2048) :
    (dats m 0 c).arrAt 6 cfg0.N (ix2 r k) = (Q (dy m c) r k * S (dy m c) r : EReal) := by
  obtain ⟨t, q, rfl⟩ := exists_row r
  have hq : rowX (M := 512) (K := 2048) (iblk m c 0 t) q < two 126 := by rw [rowX_blk]; exact hx c _
  have h := congrFun (Value.blocks6 m c t (flush0_6 t)) (ix2 q k)
  rw [Value.flushed6_A, out6_eq] at h
  have h' : (dats m 0 c).arrAt 6 cfg0.N (((cfg0.win 6).blk t).view.emb (ix2 q k))
      = k0_pay2 (k0_pay6 (iblk m c 0 t)) (Scalar.ofBits .f32 0x47600000#32) (k0_pay7 (iblk m c 0 t)) (ix2 q k) := h
  rw [emb6] at h'
  rw [h', pay2_apply _ _ _ hq, Q_blk, S_blk]

/-- The precondition: every row's number is in range. -/
theorem rowX_range (hpre : Cert.Pre_DynIdeal_dy_finite m) (c : Dev nD) (r : Fin 5120) : rowX (dy m c) r < two 126 := by
  refine rowX_lt _ _ fun k => ?_
  have h := congrFun (hpre c) (ix2 r k)
  unfold Cert.Pre_dy_finite.fn at h
  dsimp only at h
  rw [cmpf_apply] at h
  have h2 := le_of_cmp h
  rw [← bits_finite]
  exact h2

end Cert.DynProof

namespace Cert.Proof

open Cert.DynProof

/-- The call `dyn` and its reference leave equal results, where the gradients are finite. -/
theorem dyn_algebraic : @Cert.algebraic_DynIdeal_DynRefIdeal_pre_dy_finite Cert.DynIdeal.Gen.facts Cert.DynRefIdeal.Gen.facts
    Cert.Pre_dy_finite.Gen.facts := by
  unfold Cert.algebraic_DynIdeal_DynRefIdeal_pre_dy_finite
  intro m g m' g' hpre hagree
  refine ⟨fun c => (Cert.DynIdeal.Gen.dats m 0 c).arrAt 3 Cert.DynIdeal.cfg0.N,
    fun c => (Cert.DynIdeal.Gen.dats m 0 c).arrAt 4 Cert.DynIdeal.cfg0.N,
    fun c => (Cert.DynIdeal.Gen.dats m 0 c).arrAt 5 Cert.DynIdeal.cfg0.N,
    fun c => (Cert.DynIdeal.Gen.dats m 0 c).arrAt 6 Cert.DynIdeal.cfg0.N, Cert.DynIdeal.Value.run_blocks m g, ?_⟩
  have hx := rowX_range m hpre
  refine (θ_run _ _ _).mono (fun r h c => ?_) (Cert.DynRefIdeal.Value.run m' g')
  obtain ⟨h3, h4, h5, h6, h7⟩ := h c
  obtain ⟨a0, a1, a2⟩ := hagree c
  refine ⟨h3.trans ?_, h4.trans ?_, h5.trans ?_, h6.trans ?_, h7⟩
  · rw [a0, a1, a2]
    funext j
    obtain ⟨p, q, rfl⟩ : ∃ p q, j = ix2 p q := ⟨_, _, eq_ix2 j⟩
    exact (refPay1_apply _ _ _ p q).trans (final3 m hx c p q).symm
  · rw [a0]
    funext j
    obtain ⟨p, q, rfl⟩ : ∃ p q, j = ix2 p q := ⟨_, _, eq_ix2 j⟩
    exact (refPay4_apply _ p q).trans (final4 m hx c p q).symm
  · rw [a0]
    funext j
    obtain ⟨p, q, rfl⟩ : ∃ p q, j = ix2 p q := ⟨_, _, eq_ix2 j⟩
    obtain rfl : q = 0 := Subsingleton.elim _ _
    exact (refPay3_apply _ p).trans (final5 m hx c p).symm
  · rw [a0]
    funext j
    obtain ⟨p, q, rfl⟩ : ∃ p q, j = ix2 p q := ⟨_, _, eq_ix2 j⟩
    exact (refPay5_apply _ p q).trans (final6 m hx c p q).symm

end Cert.Proof

end
-- ==== Proof.DwOutValue.lean ====
/-
  The call `dw_out`, at the exact values: what its run leaves in its three results, and that the reference's run leaves the same.
  A grid point holds 256 columns of `y`, quantises them by the greatest magnitude of each column (the maximum of the eight partial
  maxima it is handed) and multiplies their codes, transposed, with the whole second factor.
-/
module

public import proofs.«01_k».proof.Defs
public import proofs.«01_k».proof.Proof.Gen.DwOutIdeal.Value
public import proofs.«01_k».proof.Proof.Gen.DwOutRefIdeal.Value
public import proofs.«01_k».proof.Proof.Gen.Pre_y_maxima
public import proofs.«01_k».proof.Proof.Quant

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DwOutProof

open Cert.DwOutIdeal Cert.DwOutIdeal.Gen Cert.Shared

/-- A column's scale, from its greatest magnitude. -/
abbrev sc (a : EReal) : EReal := scaleOf 0x43E00000#32 a

/-- An element's code, from its column's greatest magnitude. -/
abbrev code (v a : EReal) : EReal := codeOf 0xC3E00000#32 0x43E00000#32 v (sc a)

/-- The product: codes of column `r`, whose greatest magnitude is `a`, times column `c` of the second factor, times the scale. -/
def prod {N : ℕ} (y : (⟨2, ![5120, N]⟩ : Shape).Idx → EReal) (d : (⟨2, ![5120, 2048]⟩ : Shape).Idx → EReal) (a : EReal)
    (r : Fin N) (c : Fin 2048) : EReal := (∑ k : Fin 5120, code (y (ix2 k r)) a * d (ix2 k c)) * sc a

/-! ## The kernel's payloads at an index -/

theorem pay1_apply (v0 : Vec Ideal S8x256 .f32) (c : Fin 256) : k0_pay1 v0 (ix2 0 c) = sc (colMax v0 c) := by
  unfold k0_pay1
  exact scale_apply _ v0 _ _ c

theorem pay2_apply (v0 : Vec Ideal S8x256 .f32) (v9 : Vec Ideal S5120x256 .f32) (k : Fin 5120) (c : Fin 256) :
    k0_pay2 v0 v9 (ix2 k c) = code (v9 (ix2 k c)) (colMax v0 c) := by
  unfold code
  rw [← pay1_apply]
  unfold k0_pay2
  exact code_apply _ _ _ _ v9 (k0_pay1 v0) _ k c

theorem dot_eq : dot_S5120x256_S5120x2048_S256x2048_0_0_1_1_n_n = transposedLhs 256 5120 2048 := rfl

theorem pay3_apply (v0 : Vec Ideal S8x256 .f32) (v9 : Vec Ideal S5120x256 .f32) (v20 : Vec Ideal S5120x2048 .bf16)
    (r : Fin 256) (c : Fin 2048) : k0_pay3 v0 v9 v20 (ix2 r c) = prod v9 v20 (colMax v0 r) r c := by
  unfold k0_pay3 prod
  dsimp only
  rw [dot_eq, mulf_apply, turned_apply, prodLhs_apply, pay1_apply]
  simp only [pay2_apply]

/-! ## The reference's payloads at an index -/

theorem refPay1_apply (v0 : Vec Ideal S5120x4096 .f32) (c : Fin 4096) :
    Cert.DwOutRefIdeal.Gen.k0_pay1 v0 (ix2 0 c) = sc (colAbs v0 c) := by
  unfold Cert.DwOutRefIdeal.Gen.k0_pay1
  exact scale_apply _ (absf (F := Ideal) (φ := .f32) v0) _ _ c

theorem refPay2_apply (v0 : Vec Ideal S5120x4096 .f32) (k : Fin 5120) (c : Fin 4096) :
    Cert.DwOutRefIdeal.Gen.k0_pay2 v0 (ix2 k c) = code (v0 (ix2 k c)) (colAbs v0 c) := by
  unfold code
  rw [← refPay1_apply]
  unfold Cert.DwOutRefIdeal.Gen.k0_pay2
  exact code_apply _ _ _ _ v0 (Cert.DwOutRefIdeal.Gen.k0_pay1 v0) _ k c

theorem refDot_eq : Cert.DwOutRefIdeal.dot_S5120x4096_S5120x2048_S4096x2048_0_0_1_1_n_n = transposedLhs 4096 5120 2048 := rfl

theorem refPay3_apply (v0 : Vec Ideal S5120x4096 .f32) (v21 : Vec Ideal S5120x2048 .bf16) (r : Fin 4096) (c : Fin 2048) :
    Cert.DwOutRefIdeal.Gen.k0_pay3 v0 v21 (ix2 r c) = prod v0 v21 (colAbs v0 r) r c := by
  unfold Cert.DwOutRefIdeal.Gen.k0_pay3 prod
  dsimp only
  rw [refDot_eq, mulf_apply, turned_apply, prodLhs_apply, refPay1_apply]
  simp only [refPay2_apply]
  exact mul_comm (G := EReal) _ _

/-! ## The blocks -/

variable (m : (ℓ : Loc nD τ sig) → Buf (Elt Ideal) ℓ) (ρ : Dev nD → PrngReg)

/-- Where the windows stand at a point. -/
theorem idx : ∀ t : Fin cfg0.N, (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- Column `r` of block `t`. -/
def at' (t : Fin cfg0.N) (r : Fin 256) : Fin 4096 := ⟨t.val * 256 + r.val, by
  have ht : t.val < 16 := t.isLt
  have := r.isLt; omega⟩

/-- Every column is a column of a block. -/
theorem exists_at (r : Fin 4096) : ∃ (t : Fin cfg0.N) (q : Fin 256), at' t q = r := by
  have hr := r.isLt
  refine ⟨⟨r.val / 256, by show r.val / 256 < 16; omega⟩, ⟨r.val % 256, by omega⟩, Fin.ext ?_⟩
  show r.val / 256 * 256 + r.val % 256 = r.val
  omega

theorem iblk0_apply (c : Dev nD) (t : Fin cfg0.N) (p : Fin 5120) (q : Fin 256) :
    iblk m c 0 t (ix2 p q) = m ((c : Thread nD τ).loc main_arg0) (ix2 p (at' t q)) := by
  rw [← V_main_arg0 m c]
  show V m c main_arg0 (((cfg0.win 0).blk t).view.emb (ix2 p q)) = _
  obtain ⟨⟨e0, e1⟩, -⟩ := idx t
  refine congrArg _ (funext fun a => Fin.ext ?_)
  match a with
  | ⟨0, _⟩ => show win0_0.index t (0 : Fin 2) * 5120 + 1 * p.val = p.val; omega
  | ⟨1, _⟩ => show win0_0.index t (1 : Fin 2) * 256 + 1 * q.val = t.val * 256 + q.val; omega

theorem iblk1_apply (c : Dev nD) (t : Fin cfg0.N) (p : Fin 8) (q : Fin 256) :
    iblk m c 1 t (ix2 p q) = m ((c : Thread nD τ).loc main_arg1) (ix2 p (at' t q)) := by
  rw [← V_main_arg1 m c]
  show V m c main_arg1 (((cfg0.win 1).blk t).view.emb (ix2 p q)) = _
  obtain ⟨-, ⟨e0, e1⟩, -⟩ := idx t
  refine congrArg _ (funext fun a => Fin.ext ?_)
  match a with
  | ⟨0, _⟩ => show win0_1.index t (0 : Fin 2) * 8 + 1 * p.val = p.val; omega
  | ⟨1, _⟩ => show win0_1.index t (1 : Fin 2) * 256 + 1 * q.val = t.val * 256 + q.val; omega

theorem iblk2_apply (c : Dev nD) (t : Fin cfg0.N) (p : Fin 5120) (q : Fin 2048) :
    iblk m c 2 t (ix2 p q) = m ((c : Thread nD τ).loc main_arg2) (ix2 p q) := by
  rw [← V_main_arg2 m c]
  show V m c main_arg2 (((cfg0.win 2).blk t).view.emb (ix2 p q)) = _
  obtain ⟨-, -, ⟨e0, e1⟩, -⟩ := idx t
  refine congrArg _ (funext fun a => Fin.ext ?_)
  match a with
  | ⟨0, _⟩ => show win0_2.index t (0 : Fin 2) * 5120 + 1 * p.val = p.val; omega
  | ⟨1, _⟩ => show win0_2.index t (1 : Fin 2) * 2048 + 1 * q.val = q.val; omega

theorem emb3 (t : Fin cfg0.N) (p : Fin 256) (q : Fin 2048) :
    ((cfg0.win 3).blk t).view.emb (ix2 p q) = ix2 (at' t p) q := by
  obtain ⟨-, -, -, ⟨e0, e1⟩, -⟩ := idx t
  funext a; apply Fin.ext
  match a with
  | ⟨0, _⟩ => show win0_3.index t (0 : Fin 2) * 256 + 1 * p.val = t.val * 256 + p.val; omega
  | ⟨1, _⟩ => show win0_3.index t (1 : Fin 2) * 2048 + 1 * q.val = q.val; omega

theorem emb4 (t : Fin cfg0.N) (p : Fin 5120) (q : Fin 256) :
    ((cfg0.win 4).blk t).view.emb (ix2 p q) = ix2 p (at' t q) := by
  obtain ⟨-, -, -, -, ⟨e0, e1⟩, -⟩ := idx t
  funext a; apply Fin.ext
  match a with
  | ⟨0, _⟩ => show win0_4.index t (0 : Fin 2) * 5120 + 1 * p.val = p.val; omega
  | ⟨1, _⟩ => show win0_4.index t (1 : Fin 2) * 256 + 1 * q.val = t.val * 256 + q.val; omega

theorem emb5 (t : Fin cfg0.N) (p : Fin 1) (q : Fin 256) :
    ((cfg0.win 5).blk t).view.emb (ix2 p q) = ix2 p (at' t q) := by
  obtain ⟨-, -, -, -, -, e0, e1⟩ := idx t
  funext a; apply Fin.ext
  match a with
  | ⟨0, _⟩ => show win0_5.index t (0 : Fin 2) * 1 + 1 * p.val = p.val; omega
  | ⟨1, _⟩ => show win0_5.index t (1 : Fin 2) * 256 + 1 * q.val = t.val * 256 + q.val; omega

/-! ## The results -/

/-- The maximum of the eight partial maxima of column `r`. -/
abbrev amax (c : Dev nD) (r : Fin 4096) : EReal := colMax (K := 8) (N := 4096) (m ((c : Thread nD τ).loc main_arg1)) r

theorem colMax_blk (c : Dev nD) (t : Fin cfg0.N) (q : Fin 256) :
    colMax (K := 8) (N := 256) (iblk m c 1 t) q = amax m c (at' t q) := by
  unfold amax colMax
  simp only [iblk1_apply]

theorem final3 (c : Dev nD) (r : Fin 4096) (k : Fin 2048) : (dats m 0 c).arrAt 3 cfg0.N (ix2 r k)
    = prod (N := 4096) (m ((c : Thread nD τ).loc main_arg0)) (m ((c : Thread nD τ).loc main_arg2)) (amax m c r) r k := by
  obtain ⟨t, q, rfl⟩ := exists_at r
  have h := congrFun (Value.blocks3 m c t (flush0_3 t)) (ix2 q k)
  rw [Value.flushed3] at h
  unfold out0_3 at h
  rw [View.canon_unit_zero hz2] at h
  simp only [View.ld_unit_zero (S := S5120x256) hz2, View.ld_unit_zero (S := S8x256) hz2, View.ld_unit_zero (S := S5120x2048) hz2] at h
  have h' : (dats m 0 c).arrAt 3 cfg0.N (((cfg0.win 3).blk t).view.emb (ix2 q k))
      = k0_pay3 (iblk m c 1 t) (iblk m c 0 t) (iblk m c 2 t) (ix2 q k) := h
  rw [emb3] at h'
  rw [h', pay3_apply, colMax_blk]
  unfold prod
  simp only [iblk0_apply, iblk2_apply]

theorem final4 (c : Dev nD) (k : Fin 5120) (r : Fin 4096) : (dats m 0 c).arrAt 4 cfg0.N (ix2 k r)
    = code (m ((c : Thread nD τ).loc main_arg0) (ix2 k r)) (amax m c r) := by
  obtain ⟨t, q, rfl⟩ := exists_at r
  have h := congrFun (Value.blocks4 m c t (flush0_4 t)) (ix2 k q)
  rw [Value.flushed4] at h
  unfold out0_4 at h
  rw [View.canon_unit_zero hz2] at h
  simp only [View.ld_unit_zero (S := S5120x256) hz2, View.ld_unit_zero (S := S8x256) hz2] at h
  have h' : (dats m 0 c).arrAt 4 cfg0.N (((cfg0.win 4).blk t).view.emb (ix2 k q))
      = k0_pay2 (iblk m c 1 t) (iblk m c 0 t) (ix2 k q) := h
  rw [emb4] at h'
  rw [h', pay2_apply, colMax_blk, iblk0_apply]

theorem final5 (c : Dev nD) (r : Fin 4096) : (dats m 0 c).arrAt 5 cfg0.N (ix2 (0 : Fin 1) r) = sc (amax m c r) := by
  obtain ⟨t, q, rfl⟩ := exists_at r
  have h := congrFun (Value.blocks5 m c t (flush0_5 t)) (ix2 (0 : Fin 1) q)
  rw [Value.flushed5] at h
  unfold out0_5 at h
  rw [View.canon_unit_zero hz2] at h
  simp only [View.ld_unit_zero (S := S8x256) hz2] at h
  have h' : (dats m 0 c).arrAt 5 cfg0.N (((cfg0.win 5).blk t).view.emb (ix2 (0 : Fin 1) q))
      = k0_pay1 (iblk m c 1 t) (ix2 0 q) := h
  rw [emb5] at h'
  rw [h', pay1_apply, colMax_blk]

theorem reduces8 : Shape.Reduces ⟨2, ![8, 4096]⟩ [0] ⟨1, ![4096]⟩ := by decide
theorem reduces5120 : Shape.Reduces ⟨2, ![5120, 4096]⟩ [0] ⟨1, ![4096]⟩ := by decide

/-- The precondition: the partial maxima have each column's greatest magnitude as their maximum. -/
theorem amax_eq (hpre : Cert.Pre_DwOutIdeal_y_maxima m) (c : Dev nD) (r : Fin 4096) :
    amax m c r = colAbs (K := 5120) (N := 4096) (m ((c : Thread nD τ).loc main_arg0)) r := by
  have h := congrFun (hpre c) (ix1 r)
  unfold Cert.Pre_y_maxima.fn at h
  dsimp only at h
  rw [cmpf_apply] at h
  have h2 := eq_of_cmp h
  rw [hostColMax_eq (K := 8) (N := 4096) _ _ reduces8, hostColMax_eq (K := 5120) (N := 4096) _ _ reduces5120] at h2
  exact h2

end Cert.DwOutProof

namespace Cert.Proof

open Cert.DwOutProof

/-- The call `dw_out` and its reference leave equal results, where the partial maxima are the columns' maxima. -/
theorem dwOut_algebraic : @Cert.algebraic_DwOutIdeal_DwOutRefIdeal_pre_y_maxima Cert.DwOutIdeal.Gen.facts Cert.DwOutRefIdeal.Gen.facts
    Cert.Pre_y_maxima.Gen.facts := by
  unfold Cert.algebraic_DwOutIdeal_DwOutRefIdeal_pre_y_maxima
  intro m g m' g' hpre hagree
  refine ⟨fun c => (Cert.DwOutIdeal.Gen.dats m 0 c).arrAt 3 Cert.DwOutIdeal.cfg0.N,
    fun c => (Cert.DwOutIdeal.Gen.dats m 0 c).arrAt 4 Cert.DwOutIdeal.cfg0.N,
    fun c => (Cert.DwOutIdeal.Gen.dats m 0 c).arrAt 5 Cert.DwOutIdeal.cfg0.N, Cert.DwOutIdeal.Value.run_blocks m g, ?_⟩
  refine (θ_run _ _ _).mono (fun r h c => ?_) (Cert.DwOutRefIdeal.Value.run m' g')
  obtain ⟨h4, h5, h6, h7⟩ := h c
  obtain ⟨a0, a1, a2⟩ := hagree c
  refine ⟨h4.trans ?_, h5.trans ?_, h6.trans ?_, h7⟩
  · rw [a0, a2]
    funext j
    obtain ⟨p, q, rfl⟩ : ∃ p q, j = ix2 p q := ⟨_, _, eq_ix2 j⟩
    refine (refPay3_apply _ _ p q).trans ((final3 m c p q).trans ?_).symm
    rw [amax_eq m hpre]
  · rw [a0]
    funext j
    obtain ⟨p, q, rfl⟩ : ∃ p q, j = ix2 p q := ⟨_, _, eq_ix2 j⟩
    refine (refPay2_apply _ p q).trans ((final4 m c p q).trans ?_).symm
    rw [amax_eq m hpre]
  · rw [a0]
    funext j
    obtain ⟨p, q, rfl⟩ : ∃ p q, j = ix2 p q := ⟨_, _, eq_ix2 j⟩
    obtain rfl : p = 0 := Subsingleton.elim _ _
    refine (refPay1_apply _ q).trans ((final5 m c q).trans ?_).symm
    rw [amax_eq m hpre]

end Cert.Proof

end
-- ==== Proof.DwQkvValue.lean ====
/-
  The call `dw_qkv`, at the exact values: what its run leaves in its three results, and that the reference's run leaves the same.
  A grid point holds 256 columns of `dp`, quantises them by the greatest magnitude of each column (the maximum of the eight partial
  maxima it is handed) and multiplies their codes with the first factor, which the first point unpacks into a scratch array the
  later points read.
-/
module

public import proofs.«01_k».proof.Defs
public import proofs.«01_k».proof.Proof.Gen.DwQkvIdeal.Value
public import proofs.«01_k».proof.Proof.Gen.DwQkvRefIdeal.Value
public import proofs.«01_k».proof.Proof.Gen.Pre_dp_maxima
public import proofs.«01_k».proof.Proof.Quant

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DwQkvProof

open Cert.DwQkvIdeal Cert.DwQkvIdeal.Gen Cert.Shared

/-- A column's scale, from its greatest magnitude. -/
abbrev sc (a : EReal) : EReal := scaleOf 0x47600000#32 a

/-- An element's code, from its column's greatest magnitude. -/
abbrev code (v a : EReal) : EReal := codeOf 0xC7600000#32 0x47600000#32 v (sc a)

/-- The product: column `r` of the unpacked first factor times the codes of column `c`, whose greatest magnitude is `a`, times
    the scale. -/
def prod {N : ℕ} (y : (⟨2, ![5120, N]⟩ : Shape).Idx → EReal) (x : (⟨2, ![5120, 2048]⟩ : Shape).Idx → EReal)
    (xs : (⟨2, ![5120, 1]⟩ : Shape).Idx → EReal) (a : EReal) (r : Fin 2048) (c : Fin N) : EReal :=
  (∑ k : Fin 5120, (x (ix2 k r) * xs (ix2 k 0)) * code (y (ix2 k c)) a) * sc a

/-! ## The kernel's payloads at an index -/

theorem pay1_apply (v29 : Vec Ideal S5120x2048 .fp8e4m3) (v31 : Vec Ideal S5120x1 .f32) (k : Fin 5120) (r : Fin 2048) :
    k0_pay1 v29 v31 (ix2 k r) = (v29 (ix2 k r) * v31 (ix2 k 0) : EReal) := by
  unfold k0_pay1
  rw [shapeCast_apply _ _ (ix2 k r) (ix2 k r) rfl, unpack_apply]

theorem pay2_apply (v0 : Vec Ideal S8x256 .f32) (c : Fin 256) : k0_pay2 v0 (ix2 0 c) = sc (colMax v0 c) := by
  unfold k0_pay2
  exact scale_apply _ v0 _ _ c

theorem pay3_apply (v0 : Vec Ideal S8x256 .f32) (v9 : Vec Ideal S5120x256 .f32) (k : Fin 5120) (c : Fin 256) :
    k0_pay3 v0 v9 (ix2 k c) = code (v9 (ix2 k c)) (colMax v0 c) := by
  unfold code
  rw [← pay2_apply]
  unfold k0_pay3
  exact code_apply _ _ _ _ v9 (k0_pay2 v0) _ k c

theorem dot_eq : dot_S5120x256_S5120x2048_S256x2048_0_0_1_1_n_n = transposedLhs 256 5120 2048 := rfl

theorem pay4_apply (v3 : Vec Ideal S8x256 .f32) (v12 : Vec Ideal S5120x256 .f32) (v29 : Vec Ideal S5120x2048 .fp8e4m3)
    (v31 : Vec Ideal S5120x1 .f32) (r : Fin 2048) (c : Fin 256) :
    k0_pay4 v3 v12 (k0_pay1 v29 v31) (ix2 r c) = prod v12 v29 v31 (colMax v3 c) r c := by
  unfold k0_pay4 prod
  dsimp only
  rw [dot_eq, mulf_apply, flip_apply, row_apply, prodLhs_apply, pay2_apply]
  simp only [pay3_apply, pay1_apply]
  refine congrArg (fun x : EReal => x * _) (Finset.sum_congr rfl fun k _ => ?_)
  exact mul_comm (G := EReal) _ _

/-! ## The reference's payloads at an index -/

theorem refPay1_apply (v0 : Vec Ideal S5120x6144 .f32) (c : Fin 6144) :
    Cert.DwQkvRefIdeal.Gen.k0_pay1 v0 (ix2 0 c) = sc (colAbs v0 c) := by
  unfold Cert.DwQkvRefIdeal.Gen.k0_pay1
  exact scale_apply _ (absf (F := Ideal) (φ := .f32) v0) _ _ c

theorem refPay2_apply (v0 : Vec Ideal S5120x6144 .f32) (k : Fin 5120) (c : Fin 6144) :
    Cert.DwQkvRefIdeal.Gen.k0_pay2 v0 (ix2 k c) = code (v0 (ix2 k c)) (colAbs v0 c) := by
  unfold code
  rw [← refPay1_apply]
  unfold Cert.DwQkvRefIdeal.Gen.k0_pay2
  exact code_apply _ _ _ _ v0 (Cert.DwQkvRefIdeal.Gen.k0_pay1 v0) _ k c

theorem refDot_eq : Cert.DwQkvRefIdeal.dot_S5120x2048_S5120x6144_S2048x6144_0_0_1_1_n_n = transposedLhs 2048 5120 6144 := rfl

theorem refPay3_apply (v0 : Vec Ideal S5120x6144 .f32) (v19 : Vec Ideal S5120x2048 .fp8e4m3) (v21 : Vec Ideal S5120x1 .f32)
    (r : Fin 2048) (c : Fin 6144) : Cert.DwQkvRefIdeal.Gen.k0_pay3 v0 v19 v21 (ix2 r c) = prod v0 v19 v21 (colAbs v0 c) r c := by
  unfold Cert.DwQkvRefIdeal.Gen.k0_pay3 prod
  rw [refDot_eq, mulf_apply, row_apply, prodRhs_apply, refPay1_apply]
  simp only [unpack_apply, refPay2_apply]

/-! ## What a point leaves -/

theorem out0_A_4_eq (c : Dev nD) (i : grid0.Coords) (a1 : Memref sig .tc .vmem S5120x256 .f32) (h1 : a1.IsWhole)
    (a2 : Memref sig .tc .vmem S8x256 .f32) (h2 : a2.IsWhole) (a3 : Memref sig .tc .vmem S5120x2048 .fp8e4m3) (h3 : a3.IsWhole)
    (a4 : Memref sig .tc .vmem S5120x1 .f32) (h4 : a4.IsWhole) (a5 : Memref sig .tc .vmem S2048x256 .f32) (h5 : a5.IsWhole)
    (a6 : Memref sig .tc .vmem S5120x256 .fp8e5m2) (h6 : a6.IsWhole) (a7 : Memref sig .tc .vmem S1x256 .f32) (h7 : a7.IsWhole)
    (a8 : Memref sig .tc .vmem S5120x2048 .bf16) (h8 : a8.IsWhole) (hc : cond0_0 i)
    (x0 : Vec Ideal S5120x256 .f32) (x1 : Vec Ideal S8x256 .f32) (x2 : Vec Ideal S5120x2048 .fp8e4m3) (x3 : Vec Ideal S5120x1 .f32) :
    out0_A_4 c i a1 h1 a2 h2 a3 h3 a4 h4 a5 h5 a6 h6 a7 h7 a8 h8 hc x0 x1 x2 x3 = k0_pay4 x1 x0 (k0_pay1 x2 x3) := by
  unfold out0_A_4
  rw [View.read_writes_junk_eq_canon]
  unfold kernelRun0_A
  dsimp only
  sl_unfold_words
  rw [View.canon_unit_zero hz2]
  simp only [View.readAt_eq_ld, h1.read_unread, h2.read_unread, h3.read_unread, h4.read_unread, h8.read_unread,
    View.ld_unit_zero (S := S5120x256) hz2, View.ld_unit_zero (S := S8x256) hz2, View.ld_unit_zero (S := S5120x2048) hz2,
    View.ld_unit_zero (S := S5120x1) hz2]
  exact congrArg _ (View.readCov_unit_zero _ hz2 _ _)

theorem out0_A_5_eq (c : Dev nD) (i : grid0.Coords) (a1 : Memref sig .tc .vmem S5120x256 .f32) (h1 : a1.IsWhole)
    (a2 : Memref sig .tc .vmem S8x256 .f32) (h2 : a2.IsWhole) (a3 : Memref sig .tc .vmem S5120x2048 .fp8e4m3) (h3 : a3.IsWhole)
    (a4 : Memref sig .tc .vmem S5120x1 .f32) (h4 : a4.IsWhole) (a5 : Memref sig .tc .vmem S2048x256 .f32) (h5 : a5.IsWhole)
    (a6 : Memref sig .tc .vmem S5120x256 .fp8e5m2) (h6 : a6.IsWhole) (a7 : Memref sig .tc .vmem S1x256 .f32) (h7 : a7.IsWhole)
    (a8 : Memref sig .tc .vmem S5120x2048 .bf16) (h8 : a8.IsWhole) (hc : cond0_0 i)
    (x0 : Vec Ideal S5120x256 .f32) (x1 : Vec Ideal S8x256 .f32) (x2 : Vec Ideal S5120x2048 .fp8e4m3) (x3 : Vec Ideal S5120x1 .f32) :
    out0_A_5 c i a1 h1 a2 h2 a3 h3 a4 h4 a5 h5 a6 h6 a7 h7 a8 h8 hc x0 x1 x2 x3 = k0_pay3 x1 x0 := by
  unfold out0_A_5
  rw [View.read_writes_junk_eq_canon]
  unfold kernelRun0_A
  dsimp only
  sl_unfold_words
  rw [View.canon_unit_zero hz2]
  simp only [View.readAt_eq_ld, h1.read_unread, h2.read_unread, h3.read_unread, h4.read_unread, h8.read_unread,
    View.ld_unit_zero (S := S5120x256) hz2, View.ld_unit_zero (S := S8x256) hz2, View.ld_unit_zero (S := S5120x2048) hz2,
    View.ld_unit_zero (S := S5120x1) hz2]

theorem out0_A_6_eq (c : Dev nD) (i : grid0.Coords) (a1 : Memref sig .tc .vmem S5120x256 .f32) (h1 : a1.IsWhole)
    (a2 : Memref sig .tc .vmem S8x256 .f32) (h2 : a2.IsWhole) (a3 : Memref sig .tc .vmem S5120x2048 .fp8e4m3) (h3 : a3.IsWhole)
    (a4 : Memref sig .tc .vmem S5120x1 .f32) (h4 : a4.IsWhole) (a5 : Memref sig .tc .vmem S2048x256 .f32) (h5 : a5.IsWhole)
    (a6 : Memref sig .tc .vmem S5120x256 .fp8e5m2) (h6 : a6.IsWhole) (a7 : Memref sig .tc .vmem S1x256 .f32) (h7 : a7.IsWhole)
    (a8 : Memref sig .tc .vmem S5120x2048 .bf16) (h8 : a8.IsWhole) (hc : cond0_0 i)
    (x0 : Vec Ideal S5120x256 .f32) (x1 : Vec Ideal S8x256 .f32) (x2 : Vec Ideal S5120x2048 .fp8e4m3) (x3 : Vec Ideal S5120x1 .f32) :
    out0_A_6 c i a1 h1 a2 h2 a3 h3 a4 h4 a5 h5 a6 h6 a7 h7 a8 h8 hc x0 x1 x2 x3 = k0_pay2 x1 := by
  unfold out0_A_6
  rw [View.read_writes_junk_eq_canon]
  unfold kernelRun0_A
  dsimp only
  sl_unfold_words
  rw [View.canon_unit_zero hz2]
  simp only [View.readAt_eq_ld, h1.read_unread, h2.read_unread, h3.read_unread, h4.read_unread, h8.read_unread,
    View.ld_unit_zero (S := S5120x256) hz2, View.ld_unit_zero (S := S8x256) hz2, View.ld_unit_zero (S := S5120x2048) hz2,
    View.ld_unit_zero (S := S5120x1) hz2]

theorem sout0_A_0_eq (c : Dev nD) (i : grid0.Coords) (a1 : Memref sig .tc .vmem S5120x256 .f32) (h1 : a1.IsWhole)
    (a2 : Memref sig .tc .vmem S8x256 .f32) (h2 : a2.IsWhole) (a3 : Memref sig .tc .vmem S5120x2048 .fp8e4m3) (h3 : a3.IsWhole)
    (a4 : Memref sig .tc .vmem S5120x1 .f32) (h4 : a4.IsWhole) (a5 : Memref sig .tc .vmem S2048x256 .f32) (h5 : a5.IsWhole)
    (a6 : Memref sig .tc .vmem S5120x256 .fp8e5m2) (h6 : a6.IsWhole) (a7 : Memref sig .tc .vmem S1x256 .f32) (h7 : a7.IsWhole)
    (a8 : Memref sig .tc .vmem S5120x2048 .bf16) (h8 : a8.IsWhole) (hc : cond0_0 i)
    (x0 : Vec Ideal S5120x256 .f32) (x1 : Vec Ideal S8x256 .f32) (x2 : Vec Ideal S5120x2048 .fp8e4m3) (x3 : Vec Ideal S5120x1 .f32) :
    sout0_A_0 c i a1 h1 a2 h2 a3 h3 a4 h4 a5 h5 a6 h6 a7 h7 a8 h8 hc x0 x1 x2 x3 = k0_pay1 x2 x3 := by
  unfold sout0_A_0
  rw [View.read_writes_junk_eq_canon]
  unfold kernelRun0_A
  dsimp only
  sl_unfold_words
  rw [View.canon_unit_zero hz2]
  simp only [View.readAt_eq_ld, h1.read_unread, h2.read_unread, h3.read_unread, h4.read_unread, h8.read_unread,
    View.ld_unit_zero (S := S5120x256) hz2, View.ld_unit_zero (S := S8x256) hz2, View.ld_unit_zero (S := S5120x2048) hz2,
    View.ld_unit_zero (S := S5120x1) hz2]

theorem out0_B_4_eq (c : Dev nD) (i : grid0.Coords) (a1 : Memref sig .tc .vmem S5120x256 .f32) (h1 : a1.IsWhole)
    (a2 : Memref sig .tc .vmem S8x256 .f32) (h2 : a2.IsWhole) (a3 : Memref sig .tc .vmem S5120x2048 .fp8e4m3) (h3 : a3.IsWhole)
    (a4 : Memref sig .tc .vmem S5120x1 .f32) (h4 : a4.IsWhole) (a5 : Memref sig .tc .vmem S2048x256 .f32) (h5 : a5.IsWhole)
    (a6 : Memref sig .tc .vmem S5120x256 .fp8e5m2) (h6 : a6.IsWhole) (a7 : Memref sig .tc .vmem S1x256 .f32) (h7 : a7.IsWhole)
    (a8 : Memref sig .tc .vmem S5120x2048 .bf16) (h8 : a8.IsWhole) (hc : ¬cond0_0 i)
    (x0 : Vec Ideal S5120x256 .f32) (x1 : Vec Ideal S8x256 .f32) (x2 : Vec Ideal S5120x2048 .fp8e4m3) (x3 : Vec Ideal S5120x1 .f32) (xs : Vec Ideal S5120x2048 .bf16) :
    out0_B_4 c i a1 h1 a2 h2 a3 h3 a4 h4 a5 h5 a6 h6 a7 h7 a8 h8 hc x0 x1 x2 x3 xs = k0_pay4 x1 x0 xs := by
  unfold out0_B_4
  rw [View.read_writes_junk_eq_canon]
  unfold kernelRun0_B
  dsimp only
  sl_unfold_words
  rw [View.canon_unit_zero hz2]
  simp only [View.readAt_eq_ld, h1.read_unread, h2.read_unread, h3.read_unread, h4.read_unread, h8.read_unread,
    View.ld_unit_zero (S := S5120x256) hz2, View.ld_unit_zero (S := S8x256) hz2, View.ld_unit_zero (S := S5120x2048) hz2,
    View.ld_unit_zero (S := S5120x1) hz2]

theorem out0_B_5_eq (c : Dev nD) (i : grid0.Coords) (a1 : Memref sig .tc .vmem S5120x256 .f32) (h1 : a1.IsWhole)
    (a2 : Memref sig .tc .vmem S8x256 .f32) (h2 : a2.IsWhole) (a3 : Memref sig .tc .vmem S5120x2048 .fp8e4m3) (h3 : a3.IsWhole)
    (a4 : Memref sig .tc .vmem S5120x1 .f32) (h4 : a4.IsWhole) (a5 : Memref sig .tc .vmem S2048x256 .f32) (h5 : a5.IsWhole)
    (a6 : Memref sig .tc .vmem S5120x256 .fp8e5m2) (h6 : a6.IsWhole) (a7 : Memref sig .tc .vmem S1x256 .f32) (h7 : a7.IsWhole)
    (a8 : Memref sig .tc .vmem S5120x2048 .bf16) (h8 : a8.IsWhole) (hc : ¬cond0_0 i)
    (x0 : Vec Ideal S5120x256 .f32) (x1 : Vec Ideal S8x256 .f32) (x2 : Vec Ideal S5120x2048 .fp8e4m3) (x3 : Vec Ideal S5120x1 .f32) (xs : Vec Ideal S5120x2048 .bf16) :
    out0_B_5 c i a1 h1 a2 h2 a3 h3 a4 h4 a5 h5 a6 h6 a7 h7 a8 h8 hc x0 x1 x2 x3 xs = k0_pay3 x1 x0 := by
  unfold out0_B_5
  rw [View.read_writes_junk_eq_canon]
  unfold kernelRun0_B
  dsimp only
  sl_unfold_words
  rw [View.canon_unit_zero hz2]
  simp only [View.readAt_eq_ld, h1.read_unread, h2.read_unread, h3.read_unread, h4.read_unread, h8.read_unread,
    View.ld_unit_zero (S := S5120x256) hz2, View.ld_unit_zero (S := S8x256) hz2, View.ld_unit_zero (S := S5120x2048) hz2,
    View.ld_unit_zero (S := S5120x1) hz2]

theorem out0_B_6_eq (c : Dev nD) (i : grid0.Coords) (a1 : Memref sig .tc .vmem S5120x256 .f32) (h1 : a1.IsWhole)
    (a2 : Memref sig .tc .vmem S8x256 .f32) (h2 : a2.IsWhole) (a3 : Memref sig .tc .vmem S5120x2048 .fp8e4m3) (h3 : a3.IsWhole)
    (a4 : Memref sig .tc .vmem S5120x1 .f32) (h4 : a4.IsWhole) (a5 : Memref sig .tc .vmem S2048x256 .f32) (h5 : a5.IsWhole)
    (a6 : Memref sig .tc .vmem S5120x256 .fp8e5m2) (h6 : a6.IsWhole) (a7 : Memref sig .tc .vmem S1x256 .f32) (h7 : a7.IsWhole)
    (a8 : Memref sig .tc .vmem S5120x2048 .bf16) (h8 : a8.IsWhole) (hc : ¬cond0_0 i)
    (x0 : Vec Ideal S5120x256 .f32) (x1 : Vec Ideal S8x256 .f32) (x2 : Vec Ideal S5120x2048 .fp8e4m3) (x3 : Vec Ideal S5120x1 .f32) (xs : Vec Ideal S5120x2048 .bf16) :
    out0_B_6 c i a1 h1 a2 h2 a3 h3 a4 h4 a5 h5 a6 h6 a7 h7 a8 h8 hc x0 x1 x2 x3 xs = k0_pay2 x1 := by
  unfold out0_B_6
  rw [View.read_writes_junk_eq_canon]
  unfold kernelRun0_B
  dsimp only
  sl_unfold_words
  rw [View.canon_unit_zero hz2]
  simp only [View.readAt_eq_ld, h1.read_unread, h2.read_unread, h3.read_unread, h4.read_unread, h8.read_unread,
    View.ld_unit_zero (S := S5120x256) hz2, View.ld_unit_zero (S := S8x256) hz2, View.ld_unit_zero (S := S5120x2048) hz2,
    View.ld_unit_zero (S := S5120x1) hz2]

/-! ## The blocks -/

variable (m : (ℓ : Loc nD τ sig) → Buf (Elt Ideal) ℓ) (ρ : Dev nD → PrngReg)

/-- Where the windows stand at a point. -/
theorem idx : ∀ t : Fin cfg0.N, (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)

/-- Column `r` of block `t`. -/
def at' (t : Fin cfg0.N) (r : Fin 256) : Fin 6144 := ⟨t.val * 256 + r.val, by
  have ht : t.val < 24 := t.isLt
  have := r.isLt; omega⟩

/-- Every column is a column of a block. -/
theorem exists_at (r : Fin 6144) : ∃ (t : Fin cfg0.N) (q : Fin 256), at' t q = r := by
  have hr := r.isLt
  refine ⟨⟨r.val / 256, by show r.val / 256 < 24; omega⟩, ⟨r.val % 256, by omega⟩, Fin.ext ?_⟩
  show r.val / 256 * 256 + r.val % 256 = r.val
  omega

theorem iblk0_apply (c : Dev nD) (t : Fin cfg0.N) (p : Fin 5120) (q : Fin 256) :
    iblk m c 0 t (ix2 p q) = m ((c : Thread nD τ).loc main_arg0) (ix2 p (at' t q)) := by
  rw [← V_main_arg0 m c]
  show V m c main_arg0 (((cfg0.win 0).blk t).view.emb (ix2 p q)) = _
  obtain ⟨⟨e0, e1⟩, -⟩ := idx t
  refine congrArg _ (funext fun a => Fin.ext ?_)
  match a with
  | ⟨0, _⟩ => show win0_0.index t (0 : Fin 2) * 5120 + 1 * p.val = p.val; omega
  | ⟨1, _⟩ => show win0_0.index t (1 : Fin 2) * 256 + 1 * q.val = t.val * 256 + q.val; omega

theorem iblk1_apply (c : Dev nD) (t : Fin cfg0.N) (p : Fin 8) (q : Fin 256) :
    iblk m c 1 t (ix2 p q) = m ((c : Thread nD τ).loc main_arg1) (ix2 p (at' t q)) := by
  rw [← V_main_arg1 m c]
  show V m c main_arg1 (((cfg0.win 1).blk t).view.emb (ix2 p q)) = _
  obtain ⟨-, ⟨e0, e1⟩, -⟩ := idx t
  refine congrArg _ (funext fun a => Fin.ext ?_)
  match a with
  | ⟨0, _⟩ => show win0_1.index t (0 : Fin 2) * 8 + 1 * p.val = p.val; omega
  | ⟨1, _⟩ => show win0_1.index t (1 : Fin 2) * 256 + 1 * q.val = t.val * 256 + q.val; omega

theorem iblk2_apply (c : Dev nD) (t : Fin cfg0.N) (p : Fin 5120) (q : Fin 2048) :
    iblk m c 2 t (ix2 p q) = m ((c : Thread nD τ).loc main_arg2) (ix2 p q) := by
  rw [← V_main_arg2 m c]
  show V m c main_arg2 (((cfg0.win 2).blk t).view.emb (ix2 p q)) = _
  obtain ⟨-, -, ⟨e0, e1⟩, -⟩ := idx t
  refine congrArg _ (funext fun a => Fin.ext ?_)
  match a with
  | ⟨0, _⟩ => show win0_2.index t (0 : Fin 2) * 5120 + 1 * p.val = p.val; omega
  | ⟨1, _⟩ => show win0_2.index t (1 : Fin 2) * 2048 + 1 * q.val = q.val; omega

theorem iblk3_apply (c : Dev nD) (t : Fin cfg0.N) (p : Fin 5120) (q : Fin 1) :
    iblk m c 3 t (ix2 p q) = m ((c : Thread nD τ).loc main_arg3) (ix2 p q) := by
  rw [← V_main_arg3 m c]
  show V m c main_arg3 (((cfg0.win 3).blk t).view.emb (ix2 p q)) = _
  obtain ⟨-, -, -, ⟨e0, e1⟩, -⟩ := idx t
  refine congrArg _ (funext fun a => Fin.ext ?_)
  match a with
  | ⟨0, _⟩ => show win0_3.index t (0 : Fin 2) * 5120 + 1 * p.val = p.val; omega
  | ⟨1, _⟩ => show win0_3.index t (1 : Fin 2) * 1 + 1 * q.val = q.val; omega

theorem emb4 (t : Fin cfg0.N) (p : Fin 2048) (q : Fin 256) :
    ((cfg0.win 4).blk t).view.emb (ix2 p q) = ix2 p (at' t q) := by
  obtain ⟨-, -, -, -, ⟨e0, e1⟩, -⟩ := idx t
  funext a; apply Fin.ext
  match a with
  | ⟨0, _⟩ => show win0_4.index t (0 : Fin 2) * 2048 + 1 * p.val = p.val; omega
  | ⟨1, _⟩ => show win0_4.index t (1 : Fin 2) * 256 + 1 * q.val = t.val * 256 + q.val; omega

theorem emb5 (t : Fin cfg0.N) (p : Fin 5120) (q : Fin 256) :
    ((cfg0.win 5).blk t).view.emb (ix2 p q) = ix2 p (at' t q) := by
  obtain ⟨-, -, -, -, -, ⟨e0, e1⟩, -⟩ := idx t
  funext a; apply Fin.ext
  match a with
  | ⟨0, _⟩ => show win0_5.index t (0 : Fin 2) * 5120 + 1 * p.val = p.val; omega
  | ⟨1, _⟩ => show win0_5.index t (1 : Fin 2) * 256 + 1 * q.val = t.val * 256 + q.val; omega

theorem emb6 (t : Fin cfg0.N) (p : Fin 1) (q : Fin 256) :
    ((cfg0.win 6).blk t).view.emb (ix2 p q) = ix2 p (at' t q) := by
  obtain ⟨-, -, -, -, -, -, e0, e1⟩ := idx t
  funext a; apply Fin.ext
  match a with
  | ⟨0, _⟩ => show win0_6.index t (0 : Fin 2) * 1 + 1 * p.val = p.val; omega
  | ⟨1, _⟩ => show win0_6.index t (1 : Fin 2) * 256 + 1 * q.val = t.val * 256 + q.val; omega

/-! ## The results -/

/-- The maximum of the eight partial maxima of column `r`. -/
abbrev amax (c : Dev nD) (r : Fin 6144) : EReal := colMax (K := 8) (N := 6144) (m ((c : Thread nD τ).loc main_arg1)) r

theorem colMax_blk (c : Dev nD) (t : Fin cfg0.N) (q : Fin 256) :
    colMax (K := 8) (N := 256) (iblk m c 1 t) q = amax m c (at' t q) := by
  unfold amax colMax
  simp only [iblk1_apply]

/-- The first point. -/
abbrev t0 : Fin cfg0.N := ⟨0, by decide⟩

theorem scratch_A (c : Dev nD) (t : Fin cfg0.N) (h0 : t.val % 24 = 0) :
    (outsAt0 m c t.val t.isLt).2.2.2 = k0_pay1 (iblk m c 2 t) (iblk m c 3 t) := by
  rw [outsAt0_A m c t h0]
  dsimp only
  rw [sout0_A_0_eq]

theorem scratch_B (c : Dev nD) (t : Fin cfg0.N) (h0 : ¬t.val % 24 = 0) :
    (outsAt0 m c t.val t.isLt).2.2.2 = (outsAt0 m c (t.val - 1) (Nat.lt_of_le_of_lt (Nat.sub_le _ _) t.isLt)).2.2.2 := by
  rw [outsAt0_B m c t h0]
  dsimp only [sout0_B_0]

/-- What the scratch holds after every point: the first factor, unpacked. -/
theorem scratch_eq (c : Dev nD) (n : ℕ) (hn : n < cfg0.N) :
    (outsAt0 m c n hn).2.2.2 = k0_pay1 (iblk m c 2 t0) (iblk m c 3 t0) := by
  induction n with
  | zero => exact scratch_A m c ⟨0, hn⟩ (Nat.zero_mod _)
  | succ n ih =>
    have hN : n + 1 < 24 := hn
    exact (scratch_B m c ⟨n + 1, hn⟩ (by show ¬(n + 1) % 24 = 0; omega)).trans (ih (by omega))

/-- What the run would write back at point `t`: the three payloads of the point's blocks and the unpacked first factor. -/
theorem outs_eq (c : Dev nD) (t : Fin cfg0.N) :
    (outsAt0 m c t.val t.isLt).1 = k0_pay4 (iblk m c 1 t) (iblk m c 0 t) (k0_pay1 (iblk m c 2 t0) (iblk m c 3 t0))
    ∧ (outsAt0 m c t.val t.isLt).2.1 = k0_pay3 (iblk m c 1 t) (iblk m c 0 t)
    ∧ (outsAt0 m c t.val t.isLt).2.2.1 = k0_pay2 (iblk m c 1 t) := by
  by_cases h0 : t.val % 24 = 0
  · obtain rfl : t = t0 := Fin.ext (by have ht : t.val < 24 := t.isLt; show t.val = 0; omega)
    rw [outsAt0_A m c t0 h0]
    dsimp only
    rw [out0_A_4_eq, out0_A_5_eq, out0_A_6_eq]
    exact ⟨rfl, rfl, rfl⟩
  · rw [outsAt0_B m c t h0]
    dsimp only
    rw [out0_B_4_eq, out0_B_5_eq, out0_B_6_eq, scratch_eq]
    exact ⟨rfl, rfl, rfl⟩

theorem final4 (c : Dev nD) (k : Fin 2048) (r : Fin 6144) : (dats m 0 c).arrAt 4 cfg0.N (ix2 k r)
    = prod (N := 6144) (m ((c : Thread nD τ).loc main_arg0)) (m ((c : Thread nD τ).loc main_arg2)) (m ((c : Thread nD τ).loc main_arg3))
      (amax m c r) k r := by
  obtain ⟨t, q, rfl⟩ := exists_at r
  have h := congrFun (Value.blocks4 m c t (flush0_4 t)) (ix2 k q)
  rw [Value.flushed4, (outs_eq m c t).1] at h
  have h' : (dats m 0 c).arrAt 4 cfg0.N (((cfg0.win 4).blk t).view.emb (ix2 k q))
      = k0_pay4 (iblk m c 1 t) (iblk m c 0 t) (k0_pay1 (iblk m c 2 t0) (iblk m c 3 t0)) (ix2 k q) := h
  rw [emb4] at h'
  rw [h', pay4_apply, colMax_blk]
  unfold prod
  simp only [iblk0_apply, iblk2_apply, iblk3_apply]

theorem final5 (c : Dev nD) (k : Fin 5120) (r : Fin 6144) : (dats m 0 c).arrAt 5 cfg0.N (ix2 k r)
    = code (m ((c : Thread nD τ).loc main_arg0) (ix2 k r)) (amax m c r) := by
  obtain ⟨t, q, rfl⟩ := exists_at r
  have h := congrFun (Value.blocks5 m c t (flush0_5 t)) (ix2 k q)
  rw [Value.flushed5, (outs_eq m c t).2.1] at h
  have h' : (dats m 0 c).arrAt 5 cfg0.N (((cfg0.win 5).blk t).view.emb (ix2 k q))
      = k0_pay3 (iblk m c 1 t) (iblk m c 0 t) (ix2 k q) := h
  rw [emb5] at h'
  rw [h', pay3_apply, colMax_blk, iblk0_apply]

theorem final6 (c : Dev nD) (r : Fin 6144) : (dats m 0 c).arrAt 6 cfg0.N (ix2 (0 : Fin 1) r) = sc (amax m c r) := by
  obtain ⟨t, q, rfl⟩ := exists_at r
  have h := congrFun (Value.blocks6 m c t (flush0_6 t)) (ix2 (0 : Fin 1) q)
  rw [Value.flushed6, (outs_eq m c t).2.2] at h
  have h' : (dats m 0 c).arrAt 6 cfg0.N (((cfg0.win 6).blk t).view.emb (ix2 (0 : Fin 1) q))
      = k0_pay2 (iblk m c 1 t) (ix2 0 q) := h
  rw [emb6] at h'
  rw [h', pay2_apply, colMax_blk]

theorem reduces8 : Shape.Reduces ⟨2, ![8, 6144]⟩ [0] ⟨1, ![6144]⟩ := by decide
theorem reduces5120 : Shape.Reduces ⟨2, ![5120, 6144]⟩ [0] ⟨1, ![6144]⟩ := by decide

/-- The precondition: the partial maxima have each column's greatest magnitude as their maximum. -/
theorem amax_eq (hpre : Cert.Pre_DwQkvIdeal_dp_maxima m) (c : Dev nD) (r : Fin 6144) :
    amax m c r = colAbs (K := 5120) (N := 6144) (m ((c : Thread nD τ).loc main_arg0)) r := by
  have h := congrFun (hpre c) (ix1 r)
  unfold Cert.Pre_dp_maxima.fn at h
  dsimp only at h
  rw [cmpf_apply] at h
  have h2 := eq_of_cmp h
  rw [hostColMax_eq (K := 8) (N := 6144) _ _ reduces8, hostColMax_eq (K := 5120) (N := 6144) _ _ reduces5120] at h2
  exact h2

end Cert.DwQkvProof

namespace Cert.Proof

open Cert.DwQkvProof

/-- The call `dw_qkv` and its reference leave equal results, where the partial maxima are the columns' maxima. -/
theorem dwQkv_algebraic : @Cert.algebraic_DwQkvIdeal_DwQkvRefIdeal_pre_dp_maxima Cert.DwQkvIdeal.Gen.facts Cert.DwQkvRefIdeal.Gen.facts
    Cert.Pre_dp_maxima.Gen.facts := by
  unfold Cert.algebraic_DwQkvIdeal_DwQkvRefIdeal_pre_dp_maxima
  intro m g m' g' hpre hagree
  refine ⟨fun c => (Cert.DwQkvIdeal.Gen.dats m 0 c).arrAt 4 Cert.DwQkvIdeal.cfg0.N,
    fun c => (Cert.DwQkvIdeal.Gen.dats m 0 c).arrAt 5 Cert.DwQkvIdeal.cfg0.N,
    fun c => (Cert.DwQkvIdeal.Gen.dats m 0 c).arrAt 6 Cert.DwQkvIdeal.cfg0.N, Cert.DwQkvIdeal.Value.run_blocks m g, ?_⟩
  refine (θ_run _ _ _).mono (fun r h c => ?_) (Cert.DwQkvRefIdeal.Value.run m' g')
  obtain ⟨h4, h5, h6, h7⟩ := h c
  obtain ⟨a0, a1, a2, a3⟩ := hagree c
  refine ⟨h4.trans ?_, h5.trans ?_, h6.trans ?_, h7⟩
  · rw [a0, a2, a3]
    funext j
    obtain ⟨p, q, rfl⟩ : ∃ p q, j = ix2 p q := ⟨_, _, eq_ix2 j⟩
    refine (refPay3_apply _ _ _ p q).trans ((final4 m c p q).trans ?_).symm
    rw [amax_eq m hpre]
  · rw [a0]
    funext j
    obtain ⟨p, q, rfl⟩ : ∃ p q, j = ix2 p q := ⟨_, _, eq_ix2 j⟩
    refine (refPay2_apply _ p q).trans ((final5 m c p q).trans ?_).symm
    rw [amax_eq m hpre]
  · rw [a0]
    funext j
    obtain ⟨p, q, rfl⟩ : ∃ p q, j = ix2 p q := ⟨_, _, eq_ix2 j⟩
    obtain rfl : p = 0 := Subsingleton.elim _ _
    refine (refPay1_apply _ q).trans ((final6 m c q).trans ?_).symm
    rw [amax_eq m hpre]

end Cert.Proof

end
-- ==== Proof.GatesScan.lean ====
/-
  The running sum of 64 lanes, in the two forms the call `gates` and its reference have it: the reference's windowed sum (the window of
  the 64 positions up to and with a lane, zeros before the first), and a sum over all 128 lanes of the terms that count.
-/
module

public import Idealize.ShloMosaic.Lib.Pointwise

@[expose] public section

set_option maxRecDepth 16384

noncomputable section

open Idealize.ShloMosaic
open scoped BigOperators

namespace Cert.GatesProof

/-- The running sum at lane `c`: the lanes up to and with `c` of its half of 64. -/
def run (g : Fin 128 → EReal) (c : Fin 128) : EReal :=
  ∑ k : Fin 128, if k.val / 64 = c.val / 64 ∧ k.val ≤ c.val then g k else 0

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

theorem foldl_finRange {N : ℕ} (g : Fin N → EReal) (v : EReal) : (List.finRange N).foldl (fun r n => r + g n) v = v + ∑ n, g n := by
  rw [foldl_add, Fin.sum_univ_def]

/-- The window's positions, shifted: position `w` of the window of lane `l` is the operand's lane `l + w - 63`. -/
theorem sum_shift (f : Fin 64 → EReal) (l : Fin 64) :
    (∑ w : Fin 64, if h : 63 ≤ l.val + w.val then f ⟨l.val + w.val - 63, by omega⟩ else 0)
      = ∑ k : Fin 64, if k.val ≤ l.val then f k else 0 := by
  rw [← Equiv.sum_comp (Equiv.addRight (l + 1)) (fun k : Fin 64 => if k.val ≤ l.val then f k else 0)]
  refine Finset.sum_congr rfl fun w _ => ?_
  have hv : (Equiv.addRight (l + 1) w).val = (w.val + (l.val + 1) % 64) % 64 := by
    show (w + (l + 1)).val = _
    rw [Fin.val_add, Fin.val_add]; rfl
  have hl := l.isLt
  have hw := w.isLt
  by_cases h : 63 ≤ l.val + w.val
  · rw [dif_pos h, if_pos (by omega)]
    exact congrArg f (Fin.ext (by rw [hv]; show l.val + w.val - 63 = _; omega))
  · rw [dif_neg h, if_neg (by omega)]

/-- The reference's windowed sum at a lane. -/
theorem window_apply (x : (⟨4, ![80, 8, 2, 64]⟩ : Shape).Idx → EReal) (init : (⟨0, ![]⟩ : Shape).Idx → EReal)
    (hr : (⟨4, ![80, 8, 2, 64]⟩ : Shape).ReduceWindows ![1, 1, 1, 64] ![1, 1, 1, 1] ![0, 0, 0, 63] ![0, 0, 0, 0] ⟨4, ![80, 8, 2, 64]⟩)
    (hu : 0 < (⟨0, ![]⟩ : Shape).numel) (h0 : ∀ i, init i = 0) (n : Fin 80) (h : Fin 8) (p : Fin 2) (l : Fin 64) :
    Host.reduceWindowAdd (F := Ideal) (φ := .f32) ![1, 1, 1, 64] ![1, 1, 1, 1] ![0, 0, 0, 63] ![0, 0, 0, 0] x init hr hu (ix4 n h p l)
      = ∑ k : Fin 64, if k.val ≤ l.val then x (ix4 n h p k) else 0 := by
  unfold Host.reduceWindowAdd
  rw [Ideal.hostReduceWindowAdd_def]
  unfold Ideal.hostReduceWindowAdd Host.reduceWindow
  dsimp only
  rw [h0, foldl_finRange, zero_add]
  rw [← sum_shift]
  let W : Shape := ⟨4, ![1, 1, 1, 64]⟩
  let P : W.Idx → Fin 4 → ℕ := fun i a => (ix4 n h p l (a.cast hr.1.symm)).val * (![1, 1, 1, 1] : Fin 4 → ℕ) a + (i a).val
  let D : W.Idx → EReal := fun i =>
    if hin : ∀ a, (![0, 0, 0, 63] : Fin 4 → ℕ) a ≤ P i a ∧ P i a - (![0, 0, 0, 63] : Fin 4 → ℕ) a < (⟨4, ![80, 8, 2, 64]⟩ : Shape).size a then
      x (fun a => ⟨P i a - (![0, 0, 0, 63] : Fin 4 → ℕ) a, (hin a).2⟩) else 0
  have e1 : (∑ i : Fin W.numel, D (W.rowMajor.symm i)) = ∑ i, D i := Equiv.sum_comp W.rowMajor.symm D
  refine (Finset.sum_congr rfl fun i _ => ?_).trans (e1.trans ?_)
  · by_cases hin : ∀ a, (![0, 0, 0, 63] : Fin 4 → ℕ) a ≤ P (W.rowMajor.symm i) a
        ∧ P (W.rowMajor.symm i) a - (![0, 0, 0, 63] : Fin 4 → ℕ) a < (⟨4, ![80, 8, 2, 64]⟩ : Shape).size a
    · refine (dif_pos hin).trans (Eq.symm ?_)
      exact dif_pos hin
    · refine (dif_neg hin).trans (Eq.symm ?_)
      exact dif_neg hin
  have e2 : ∑ i, D i = ∑ a : Fin 1, ∑ b : Fin 1, ∑ c : Fin 1, ∑ d : Fin 64, D (ix4 a b c d) := sum_idx4 D
  rw [e2, Fin.sum_univ_one, Fin.sum_univ_one, Fin.sum_univ_one]
  refine Finset.sum_congr rfl fun w _ => ?_
  have hn := n.isLt
  have hh := h.isLt
  have hp := p.isLt
  have hl := l.isLt
  have hw := w.isLt
  have P0 : P (ix4 0 0 0 w) 0 = n.val * 1 + 0 := rfl
  have P1 : P (ix4 0 0 0 w) 1 = h.val * 1 + 0 := rfl
  have P2 : P (ix4 0 0 0 w) 2 = p.val * 1 + 0 := rfl
  have P3 : P (ix4 0 0 0 w) 3 = l.val * 1 + w.val := rfl
  by_cases hc : 63 ≤ l.val + w.val
  · rw [dif_pos hc]
    have hin : ∀ a, (![0, 0, 0, 63] : Fin 4 → ℕ) a ≤ P (ix4 0 0 0 w) a
        ∧ P (ix4 0 0 0 w) a - (![0, 0, 0, 63] : Fin 4 → ℕ) a < (⟨4, ![80, 8, 2, 64]⟩ : Shape).size a := by
      intro a
      match a with
      | ⟨0, _⟩ => exact ⟨Nat.zero_le _, by show n.val * 1 + 0 - 0 < 80; omega⟩
      | ⟨1, _⟩ => exact ⟨Nat.zero_le _, by show h.val * 1 + 0 - 0 < 8; omega⟩
      | ⟨2, _⟩ => exact ⟨Nat.zero_le _, by show p.val * 1 + 0 - 0 < 2; omega⟩
      | ⟨3, _⟩ => exact ⟨by show 63 ≤ l.val * 1 + w.val; omega, by show l.val * 1 + w.val - 63 < 64; omega⟩
    refine (dif_pos hin).trans (congrArg x (funext fun a => Fin.ext ?_))
    match a with
    | ⟨0, _⟩ => show n.val * 1 + 0 - 0 = n.val; omega
    | ⟨1, _⟩ => show h.val * 1 + 0 - 0 = h.val; omega
    | ⟨2, _⟩ => show p.val * 1 + 0 - 0 = p.val; omega
    | ⟨3, _⟩ => show l.val * 1 + w.val - 63 = l.val + w.val - 63; omega
  · rw [dif_neg hc]
    refine dif_neg fun hin => hc ?_
    have := (hin 3).1
    rw [P3] at this
    have h63 : (![0, 0, 0, 63] : Fin 4 → ℕ) 3 = 63 := rfl
    rw [h63] at this
    omega

/-- The running sum of a half, over that half's own 64 lanes. -/
theorem half_eq_run (g : Fin 128 → EReal) (c : Fin 128) :
    (∑ k : Fin 64, if k.val ≤ c.val % 64 then g ⟨c.val / 64 * 64 + k.val, by omega⟩ else 0) = run g c := by
  unfold run
  have hc := c.isLt
  have hs : ∀ f : Fin 128 → EReal, ∑ k : Fin 128, f k
      = ∑ k : Fin 64, f ⟨k.val, by omega⟩ + ∑ k : Fin 64, f ⟨64 + k.val, by omega⟩ := fun f => Fin.sum_univ_add (a := 64) (b := 64) f
  rw [hs]
  rcases (by omega : c.val / 64 = 0 ∨ c.val / 64 = 1) with h | h
  · rw [Finset.sum_eq_zero (s := Finset.univ) (f := fun k : Fin 64 => if (64 + k.val) / 64 = c.val / 64 ∧ 64 + k.val ≤ c.val then
      g ⟨64 + k.val, by omega⟩ else 0) (fun k _ => if_neg (by omega)), add_zero]
    refine Finset.sum_congr rfl fun k _ => ?_
    have hk := k.isLt
    exact if_congr (by show _ ↔ k.val / 64 = c.val / 64 ∧ k.val ≤ c.val; omega) (congrArg g (Fin.ext (by show c.val / 64 * 64 + k.val = k.val; omega))) rfl
  · rw [Finset.sum_eq_zero (s := Finset.univ) (f := fun k : Fin 64 => if k.val / 64 = c.val / 64 ∧ k.val ≤ c.val then
      g ⟨k.val, by omega⟩ else 0) (fun k _ => if_neg (by omega)), zero_add]
    refine Finset.sum_congr rfl fun k _ => ?_
    have hk := k.isLt
    exact if_congr (by show _ ↔ (64 + k.val) / 64 = c.val / 64 ∧ 64 + k.val ≤ c.val; omega) (congrArg g (Fin.ext (by show c.val / 64 * 64 + k.val = 64 + k.val; omega))) rfl

/-- The last lane of a lane's half. -/
def lastOf (c : Fin 128) : Fin 128 := ⟨c.val / 64 * 64 + 63, by omega⟩

/-- A sum against the 0/1 column that picks the last lane of the half. -/
theorem sum_last (f : Fin 128 → EReal) (c : Fin 128) :
    (∑ k : Fin 128, f k * (if k.val / 64 = c.val / 64 ∧ k.val % 64 = 63 then 1 else 0)) = f (lastOf c) := by
  have hc := c.isLt
  rw [Finset.sum_eq_single (lastOf c)]
  · rw [if_pos (by show (c.val / 64 * 64 + 63) / 64 = _ ∧ (c.val / 64 * 64 + 63) % 64 = 63; omega), mul_one]
  · intro k _ hk
    rw [if_neg, mul_zero]
    intro h
    exact hk (Fin.ext (by show k.val = c.val / 64 * 64 + 63; omega))
  · intro h
    exact absurd (Finset.mem_univ _) h

/-- A sum against the 0/1 column of the lanes that count is the running sum. -/
theorem sum_tri (f : Fin 128 → EReal) (c : Fin 128) :
    (∑ k : Fin 128, f k * (if k.val / 64 = c.val / 64 ∧ k.val ≤ c.val then 1 else 0)) = run f c := by
  unfold run
  refine Finset.sum_congr rfl fun k _ => ?_
  rw [mul_ite, mul_one, mul_zero]

end Cert.GatesProof

end
-- ==== Proof.GatesMask.lean ====
/-
  The two 0/1 matrices of the call `gates`, at an index: the lanes of the same half up to a lane, and the last lane of the same half.
-/
module

public import proofs.«01_k».proof.Proof.Gen.GatesIdeal.Frame
public import Idealize.ShloMosaic.Lib.Pointwise

@[expose] public section

set_option maxRecDepth 16384

noncomputable section

open Idealize.ShloMosaic Idealize.ShloMosaic.TcCoe Idealize.SL.Sem
open scoped BigOperators

namespace Cert.GatesProof

open Cert.GatesIdeal Cert.GatesIdeal.Gen

/-- The division by 64 as printed, rounded down, of a lane number. -/
theorem floor_div : ∀ r : Fin 128, Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) = BitVec.ofNat 32 (r.val / 64) := by decide +kernel

/-- The remainder by 64 as printed, of a lane number. -/
theorem floor_mod : ∀ r : Fin 128, Scalar.select
      (IntOp.andi
        (IntOp.xori
          (IntOp.cmpi CmpIPredicate.slt
            (IntOp.remsi ArithUnit.vector (BitVec.ofNat 32 r.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32)
            0#32))
        (IntOp.cmpi CmpIPredicate.ne
          (IntOp.remsi ArithUnit.vector (BitVec.ofNat 32 r.val)
            (Scalar.select (Scalar.cmpi CmpIPredicate.eq 64#32 0#32) 1#32 64#32))
          0#32))
      (IntOp.addi
        (IntOp.remsi ArithUnit.vector (BitVec.ofNat 32 r.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 r.val)
        (Scalar.select (Scalar.cmpi CmpIPredicate.eq 64#32 0#32) 1#32 64#32)) = BitVec.ofNat 32 (r.val % 64) := by decide +kernel

theorem tri_bit : ∀ r c : Fin 128, IntOp.andi (IntOp.cmpi CmpIPredicate.eq (BitVec.ofNat 32 (r.val / 64)) (BitVec.ofNat 32 (c.val / 64)))
    (IntOp.cmpi CmpIPredicate.sle (BitVec.ofNat 32 r.val) (BitVec.ofNat 32 c.val))
      = if r.val / 64 = c.val / 64 ∧ r.val ≤ c.val then 1#1 else 0#1 := by decide +kernel

theorem last_bit : ∀ r c : Fin 128, IntOp.andi (IntOp.cmpi CmpIPredicate.eq (BitVec.ofNat 32 (r.val / 64)) (BitVec.ofNat 32 (c.val / 64)))
    (IntOp.cmpi CmpIPredicate.eq (BitVec.ofNat 32 (r.val % 64)) 63#32)
      = if r.val / 64 = c.val / 64 ∧ r.val % 64 = 63 then 1#1 else 0#1 := by decide +kernel

theorem select_ite (P : Prop) [Decidable P] (x y : EReal) : Scalar.select (if P then 1#1 else 0#1) x y = if P then x else y := by
  by_cases h : P
  · rw [if_pos h, if_pos h]; rfl
  · rw [if_neg h, if_neg h]; rfl

variable (x0 x1 : Vec Ideal S8x8x128 .f32) (x2 x3 : Vec Ideal S8x128 .f32) (x4 : Vec Ideal S8x8x128 .f32)

theorem tri_apply (r c : Fin 128) : k0_pay55 x0 x1 x2 x3 x4 (ix2 r c) = if r.val / 64 = c.val / 64 ∧ r.val ≤ c.val then 1 else 0 := by
  pointwise [k0_pay55, k0_pay53, k0_pay54, k0_pay6, k0_pay2, k0_pay3, k0_pay4, k0_pay5]
  rw [floor_div r, floor_div c, tri_bit, select_ite]

theorem last_apply (r c : Fin 128) : k0_pay56 x0 x1 x2 x3 x4 (ix2 r c) = if r.val / 64 = c.val / 64 ∧ r.val % 64 = 63 then 1 else 0 := by
  pointwise [k0_pay56, k0_pay53, k0_pay54, k0_pay10, k0_pay7, k0_pay8, k0_pay9]
  rw [floor_div r, floor_div c, floor_mod r, last_bit, select_ite]

end Cert.GatesProof

end
-- ==== Proof.GatesStep.lean ====
/-
  The call `gates`, at the exact values: one chunk of a grid step at an index.
-/
module

public import proofs.«01_k».proof.Proof.Gen.GatesIdeal.Frame
public import proofs.«01_k».proof.Proof.GatesScan
public import proofs.«01_k».proof.Proof.GatesMask
public import Idealize.ShloMosaic.Lib.Pipeline.ValueKit

@[expose] public section

set_option maxRecDepth 16384

noncomputable section

open Idealize.ShloMosaic Idealize.ShloMosaic.TcCoe Idealize.SL.Sem
open scoped BigOperators

namespace Cert.GatesProof

open Cert.GatesIdeal Cert.GatesIdeal.Gen

/-- The decay's logarithm, from the rate, the gate's input and its bias. -/
def gLog (w a d : EReal) : EReal := w * (max (a + d) 0 + Ideal.log1p (Ideal.exp (0 - FloatOps.absf (F := Ideal) (φ := .f32) (a + d))))

/-- The write strength: the logistic function. -/
def bet (b : EReal) : EReal := Ideal.div 1 (1 + Ideal.exp (0 - b))

/-- The table of a chunk, lane `p`, column `q`: nine groups of eight columns, then zeros. -/
def cols (be G s : Fin 8 → Fin 128 → EReal) (p q : Fin 128) : EReal :=
  if h : q.val < 8 then be ⟨q.val, h⟩ p
  else if h : q.val - 8 < 8 then G ⟨q.val - 8, h⟩ p
  else if h : q.val - 8 - 8 < 8 then Ideal.exp (G ⟨q.val - 8 - 8, h⟩ p)
  else if h : q.val - 8 - 8 - 8 < 8 then Ideal.exp (G ⟨q.val - 8 - 8 - 8, h⟩ (lastOf p) - G ⟨q.val - 8 - 8 - 8, h⟩ p)
  else if h : q.val - 8 - 8 - 8 - 8 < 8 then be ⟨q.val - 8 - 8 - 8 - 8, h⟩ p * Ideal.exp (G ⟨q.val - 8 - 8 - 8 - 8, h⟩ p)
  else if h : q.val - 8 - 8 - 8 - 8 - 8 < 8 then be ⟨q.val - 8 - 8 - 8 - 8 - 8, h⟩ p * Ideal.exp (G ⟨q.val - 8 - 8 - 8 - 8 - 8, h⟩ p) * s ⟨q.val - 8 - 8 - 8 - 8 - 8, h⟩ p
  else if h : q.val - 8 - 8 - 8 - 8 - 8 - 8 < 8 then Ideal.exp (G ⟨q.val - 8 - 8 - 8 - 8 - 8 - 8, h⟩ p) * s ⟨q.val - 8 - 8 - 8 - 8 - 8 - 8, h⟩ p
  else if h : q.val - 8 - 8 - 8 - 8 - 8 - 8 - 8 < 8 then Ideal.exp (G ⟨q.val - 8 - 8 - 8 - 8 - 8 - 8 - 8, h⟩ (lastOf p))
  else if h : q.val - 8 - 8 - 8 - 8 - 8 - 8 - 8 - 8 < 8 then s ⟨q.val - 8 - 8 - 8 - 8 - 8 - 8 - 8 - 8, h⟩ p
  else 0

theorem pay13_apply (x0 x1 : Vec Ideal S8x8x128 .f32) (x2 x3 : Vec Ideal S8x128 .f32) (x4 : Vec Ideal S8x8x128 .f32)
    (v130 : FVec Ideal S8x128 .f32) (v140 : Vec Ideal S1x8x128 .f32) (v142 : Vec Ideal S8x128 .f32) (h : Fin 8) (c : Fin 128) :
    k0_pay13 (k0_pay55 x0 x1 x2 x3 x4) v130 v140 v142 (ix2 h c)
      = run (fun k => gLog (v130 (ix2 h k)) (v140 (ix3 0 h k)) (v142 (ix2 h k))) c := by
  rw [← sum_tri]
  pointwise [k0_pay13]
  simp only [tri_apply]
  rfl

theorem pay14_apply (x0 x1 : Vec Ideal S8x8x128 .f32) (x2 x3 : Vec Ideal S8x128 .f32) (x4 : Vec Ideal S8x8x128 .f32)
    (v130 : FVec Ideal S8x128 .f32) (v131 v140 : Vec Ideal S1x8x128 .f32)
    (v142 : Vec Ideal S8x128 .f32) (v156 : Vec Ideal S1x8x128 .f32) (p q : Fin 128) :
    k0_pay14 (k0_pay55 x0 x1 x2 x3 x4) (k0_pay56 x0 x1 x2 x3 x4) v130 (k0_pay12 v131) (Scalar.ofBits .f32 0x00000000#32) v140 v142 v156
        (ix3 0 p q)
      = cols (fun h l => bet (v131 (ix3 0 h l)))
          (fun h l => run (fun k => gLog (v130 (ix2 h k)) (v140 (ix3 0 h k)) (v142 (ix2 h k))) l)
          (fun h l => v156 (ix3 0 h l)) p q := by
  pointwise [k0_pay14, k0_pay12]
  simp only [pay13_apply, last_apply, sum_last]
  rfl

theorem neg_apply (x0 x1 : Vec Ideal S8x8x128 .f32) (x2 x3 : Vec Ideal S8x128 .f32) (x4 : Vec Ideal S8x8x128 .f32) (h : Fin 8) (c : Fin 128) :
    k0_pay57 x0 x1 x2 x3 x4 (ix2 h c) = 0 - Ideal.exp (x2 (ix2 h c)) := by
  pointwise [k0_pay57, k0_pay11, r0_0]

/-! ## The eight chunks of a step are the same function of their loads, cut differently into steps -/

section
variable (T L : FVec Ideal S128x128 .f32) (W : FVec Ideal S8x128 .f32) (b a s : Vec Ideal S1x8x128 .f32) (d : Vec Ideal S8x128 .f32)

theorem chunk7 : k0_pay52 T L W b a d s
    = k0_pay14 T L W (k0_pay12 b) (Scalar.ofBits .f32 0x00000000#32) a d s := by
  unfold_payloads
  rfl

theorem chunk6 : k0_pay49 T L W (k0_pay47 b) a d s
    = k0_pay14 T L W (k0_pay12 b) (Scalar.ofBits .f32 0x00000000#32) a d s := by
  unfold_payloads
  rfl

theorem chunk5 : k0_pay45 T L W (k0_pay42 b) (k0_pay43 a) d s
    = k0_pay14 T L W (k0_pay12 b) (Scalar.ofBits .f32 0x00000000#32) a d s := by
  unfold_payloads
  rfl

theorem chunk4 : k0_pay40 T L W (k0_pay34 b) (k0_pay36 a d) (k0_pay37 a d) (k0_pay38 (F := Ideal)) s
    = k0_pay14 T L W (k0_pay12 b) (Scalar.ofBits .f32 0x00000000#32) a d s := by
  unfold_payloads
  rfl

theorem chunk3 : k0_pay32 (k0_pay29 b) (k0_pay30 T W a d) (k0_pay31 T L W a d) s
    = k0_pay14 T L W (k0_pay12 b) (Scalar.ofBits .f32 0x00000000#32) a d s := by
  unfold_payloads
  rfl

theorem chunk2 : k0_pay27 (k0_pay20 b) (k0_pay21 T W a d) (k0_pay22 T L W a d) (k0_pay23 T W a d) (k0_pay24 s) (k0_pay25 T W b a d) (k0_pay26 T L W a d)
    = k0_pay14 T L W (k0_pay12 b) (Scalar.ofBits .f32 0x00000000#32) a d s := by
  unfold_payloads
  rfl

theorem chunk1 : k0_pay18 (k0_pay17 T L W b a d s)
    = k0_pay14 T L W (k0_pay12 b) (Scalar.ofBits .f32 0x00000000#32) a d s := by
  unfold_payloads
  rfl

theorem sums7 : k0_pay1 (k0_pay51 T W a d)
    = k0_pay15 (k0_pay13 T W a d) := by
  unfold_payloads
  rfl

theorem sums6 : k0_pay50 T W a d
    = k0_pay15 (k0_pay13 T W a d) := by
  unfold_payloads
  rfl

theorem sums5 : k0_pay46 T W (k0_pay43 a) d
    = k0_pay15 (k0_pay13 T W a d) := by
  unfold_payloads
  rfl

theorem sums4 : k0_pay41 T W (k0_pay36 a d) (k0_pay37 a d) (k0_pay38 (F := Ideal))
    = k0_pay15 (k0_pay13 T W a d) := by
  unfold_payloads
  rfl

theorem sums3 : k0_pay33 (k0_pay30 T W a d)
    = k0_pay15 (k0_pay13 T W a d) := by
  unfold_payloads
  rfl

theorem sums2 : k0_pay28 (k0_pay21 T W a d)
    = k0_pay15 (k0_pay13 T W a d) := by
  unfold_payloads
  rfl

theorem sums1 : k0_pay19 (k0_pay16 T W a d)
    = k0_pay15 (k0_pay13 T W a d) := by
  unfold_payloads
  rfl

end

/-- A load of one chunk's rows. -/
theorem ld_row (n : Fin 8) (inb) (x : Vec Ideal S8x8x128 .f32) (h : Fin 8) (l : Fin 128) :
    View.ld x (Rect.unit (s := S8x8x128) ![n.val, 0, 0] S1x8x128.size inb) (ix3 0 h l) = x (ix3 n h l) := by
  refine congrArg x (funext fun a => Fin.ext ?_)
  match a with
  | ⟨0, _⟩ => show n.val + 1 * 0 = n.val; omega
  | ⟨1, _⟩ => show 0 + 1 * h.val = h.val; omega
  | ⟨2, _⟩ => show 0 + 1 * l.val = l.val; omega

/-- A load of a whole array. -/
theorem ld_all (x : Vec Ideal S8x128 .f32) (h : Fin 8) (l : Fin 128) : View.ld x r0_0 (ix2 h l) = x (ix2 h l) := by
  pointwise [r0_0]

variable (x0 x1 : Vec Ideal S8x8x128 .f32) (x2 x3 : Vec Ideal S8x128 .f32) (x4 : Vec Ideal S8x8x128 .f32)

/-- One chunk's store into the table. -/
theorem piece (y : S8x128x128.Idx) (x : S1x128x128.Idx) (n : Fin 8) (v131 v140 v156 : Vec Ideal S1x8x128 .f32) (v142 : Vec Ideal S8x128 .f32)
    (e1 : ∀ h l, v131 (ix3 0 h l) = x1 (ix3 n h l)) (e0 : ∀ h l, v140 (ix3 0 h l) = x0 (ix3 n h l))
    (e4 : ∀ h l, v156 (ix3 0 h l) = x4 (ix3 n h l)) (e3 : ∀ h l, v142 (ix2 h l) = x3 (ix2 h l))
    (hy0 : (y 0).val = n.val) (hy1 : (y 1).val = (x 1).val) (hy2 : (y 2).val = (x 2).val) :
    k0_pay14 (k0_pay55 x0 x1 x2 x3 x4) (k0_pay56 x0 x1 x2 x3 x4) (k0_pay57 x0 x1 x2 x3 x4) (k0_pay12 v131) (Scalar.ofBits .f32 0x00000000#32)
        v140 v142 v156 x
      = cols (fun h l => bet (x1 (ix3 (y 0) h l)))
          (fun h l => run (fun k => gLog (0 - Ideal.exp (x2 (ix2 h k))) (x0 (ix3 (y 0) h k)) (x3 (ix2 h k))) l)
          (fun h l => x4 (ix3 (y 0) h l)) (y 1) (y 2) := by
  obtain ⟨u, p, q, rfl⟩ : ∃ u p q, x = ix3 u p q := ⟨_, _, _, eq_ix3 x⟩
  obtain rfl : u = 0 := Subsingleton.elim _ _
  obtain ⟨n', p', q', rfl⟩ : ∃ n' p' q', y = ix3 n' p' q' := ⟨_, _, _, eq_ix3 y⟩
  obtain rfl : n' = n := Fin.ext hy0
  obtain rfl : p' = p := Fin.ext hy1
  obtain rfl : q' = q := Fin.ext hy2
  rw [pay14_apply]
  simp only [e1, e0, e4, e3, neg_apply]
  rfl

/-- The table's block at an index. -/
theorem out5_apply (y : S8x128x128.Idx) :
    out0_5 x0 x1 x2 x3 x4 y
      = cols (fun h l => bet (x1 (ix3 (y 0) h l)))
          (fun h l => run (fun k => gLog (0 - Ideal.exp (x2 (ix2 h k))) (x0 (ix3 (y 0) h k)) (x3 (ix2 h k))) l)
          (fun h l => x4 (ix3 (y 0) h l)) (y 1) (y 2) := by
  unfold out0_5
  canon_tiles x h
  · refine (congrFun (chunk7 _ _ _ _ _ _ _) x).trans ?_
    exact piece x0 x1 x2 x3 x4 y x 7 (View.ld x1 r0_15) (View.ld x0 r0_15) (View.ld x4 r0_15) (View.ld x3 r0_0) (ld_row 7 _ x1) (ld_row 7 _ x0) (ld_row 7 _ x4) (ld_all x3) (by show (y 0).val = 7; omega) h1 h2
  · refine (congrFun (chunk6 _ _ _ _ _ _ _) x).trans ?_
    exact piece x0 x1 x2 x3 x4 y x 6 (View.ld x1 r0_13) (View.ld x0 r0_13) (View.ld x4 r0_13) (View.ld x3 r0_0) (ld_row 6 _ x1) (ld_row 6 _ x0) (ld_row 6 _ x4) (ld_all x3) (by show (y 0).val = 6; omega) h1 h2
  · refine (congrFun (chunk5 _ _ _ _ _ _ _) x).trans ?_
    exact piece x0 x1 x2 x3 x4 y x 5 (View.ld x1 r0_11) (View.ld x0 r0_11) (View.ld x4 r0_11) (View.ld x3 r0_0) (ld_row 5 _ x1) (ld_row 5 _ x0) (ld_row 5 _ x4) (ld_all x3) (by show (y 0).val = 5; omega) h1 h2
  · refine (congrFun (chunk4 _ _ _ _ _ _ _) x).trans ?_
    exact piece x0 x1 x2 x3 x4 y x 4 (View.ld x1 r0_9) (View.ld x0 r0_9) (View.ld x4 r0_9) (View.ld x3 r0_0) (ld_row 4 _ x1) (ld_row 4 _ x0) (ld_row 4 _ x4) (ld_all x3) (by show (y 0).val = 4; omega) h1 h2
  · refine (congrFun (chunk3 _ _ _ _ _ _ _) x).trans ?_
    exact piece x0 x1 x2 x3 x4 y x 3 (View.ld x1 r0_7) (View.ld x0 r0_7) (View.ld x4 r0_7) (View.ld x3 r0_0) (ld_row 3 _ x1) (ld_row 3 _ x0) (ld_row 3 _ x4) (ld_all x3) (by show (y 0).val = 3; omega) h1 h2
  · refine (congrFun (chunk2 _ _ _ _ _ _ _) x).trans ?_
    exact piece x0 x1 x2 x3 x4 y x 2 (View.ld x1 r0_5) (View.ld x0 r0_5) (View.ld x4 r0_5) (View.ld x3 r0_0) (ld_row 2 _ x1) (ld_row 2 _ x0) (ld_row 2 _ x4) (ld_all x3) (by show (y 0).val = 2; omega) h1 h2
  · refine (congrFun (chunk1 _ _ _ _ _ _ _) x).trans ?_
    exact piece x0 x1 x2 x3 x4 y x 1 (View.ld x1 r0_3) (View.ld x0 r0_3) (View.ld x4 r0_3) (View.ld x3 r0_0) (ld_row 1 _ x1) (ld_row 1 _ x0) (ld_row 1 _ x4) (ld_all x3) (by show (y 0).val = 1; omega) h1 h2
  · exact piece x0 x1 x2 x3 x4 y x 0 (View.ld x1 r0_1) (View.ld x0 r0_1) (View.ld x4 r0_1) (View.ld x3 r0_0) (ld_row 0 _ x1) (ld_row 0 _ x0) (ld_row 0 _ x4) (ld_all x3) (by show (y 0).val = 0; omega) h1 h2

/-- One chunk's store of the running sums. -/
theorem piece6 (y : S8x8x128.Idx) (x : S1x8x128.Idx) (n : Fin 8) (v140 : Vec Ideal S1x8x128 .f32) (v142 : Vec Ideal S8x128 .f32)
    (e0 : ∀ h l, v140 (ix3 0 h l) = x0 (ix3 n h l)) (e3 : ∀ h l, v142 (ix2 h l) = x3 (ix2 h l))
    (hy0 : (y 0).val = n.val) (hy1 : (y 1).val = (x 1).val) (hy2 : (y 2).val = (x 2).val) :
    k0_pay15 (k0_pay13 (k0_pay55 x0 x1 x2 x3 x4) (k0_pay57 x0 x1 x2 x3 x4) v140 v142) x
      = run (fun k => gLog (0 - Ideal.exp (x2 (ix2 (y 1) k))) (x0 (ix3 (y 0) (y 1) k)) (x3 (ix2 (y 1) k))) (y 2) := by
  obtain ⟨u, p, q, rfl⟩ : ∃ u p q, x = ix3 u p q := ⟨_, _, _, eq_ix3 x⟩
  obtain rfl : u = 0 := Subsingleton.elim _ _
  obtain ⟨n', p', q', rfl⟩ : ∃ n' p' q', y = ix3 n' p' q' := ⟨_, _, _, eq_ix3 y⟩
  obtain rfl : n' = n := Fin.ext hy0
  obtain rfl : p' = p := Fin.ext hy1
  obtain rfl : q' = q := Fin.ext hy2
  pointwise [k0_pay15]
  rw [pay13_apply]
  simp only [e0, e3, neg_apply]

/-- The running sums' block at an index. -/
theorem out6_apply (y : S8x8x128.Idx) :
    out0_6 x0 x1 x2 x3 x4 y
      = run (fun k => gLog (0 - Ideal.exp (x2 (ix2 (y 1) k))) (x0 (ix3 (y 0) (y 1) k)) (x3 (ix2 (y 1) k))) (y 2) := by
  unfold out0_6
  canon_tiles x h
  · refine (congrFun (sums7 _ _ _ _) x).trans ?_
    exact piece6 x0 x1 x2 x3 x4 y x 7 (View.ld x0 r0_15) (View.ld x3 r0_0) (ld_row 7 _ x0) (ld_all x3) (by show (y 0).val = 7; omega) h1 h2
  · refine (congrFun (sums6 _ _ _ _) x).trans ?_
    exact piece6 x0 x1 x2 x3 x4 y x 6 (View.ld x0 r0_13) (View.ld x3 r0_0) (ld_row 6 _ x0) (ld_all x3) (by show (y 0).val = 6; omega) h1 h2
  · refine (congrFun (sums5 _ _ _ _) x).trans ?_
    exact piece6 x0 x1 x2 x3 x4 y x 5 (View.ld x0 r0_11) (View.ld x3 r0_0) (ld_row 5 _ x0) (ld_all x3) (by show (y 0).val = 5; omega) h1 h2
  · refine (congrFun (sums4 _ _ _ _) x).trans ?_
    exact piece6 x0 x1 x2 x3 x4 y x 4 (View.ld x0 r0_9) (View.ld x3 r0_0) (ld_row 4 _ x0) (ld_all x3) (by show (y 0).val = 4; omega) h1 h2
  · refine (congrFun (sums3 _ _ _ _) x).trans ?_
    exact piece6 x0 x1 x2 x3 x4 y x 3 (View.ld x0 r0_7) (View.ld x3 r0_0) (ld_row 3 _ x0) (ld_all x3) (by show (y 0).val = 3; omega) h1 h2
  · refine (congrFun (sums2 _ _ _ _) x).trans ?_
    exact piece6 x0 x1 x2 x3 x4 y x 2 (View.ld x0 r0_5) (View.ld x3 r0_0) (ld_row 2 _ x0) (ld_all x3) (by show (y 0).val = 2; omega) h1 h2
  · refine (congrFun (sums1 _ _ _ _) x).trans ?_
    exact piece6 x0 x1 x2 x3 x4 y x 1 (View.ld x0 r0_3) (View.ld x3 r0_0) (ld_row 1 _ x0) (ld_all x3) (by show (y 0).val = 1; omega) h1 h2
  · exact piece6 x0 x1 x2 x3 x4 y x 0 (View.ld x0 r0_1) (View.ld x3 r0_0) (ld_row 0 _ x0) (ld_all x3) (by show (y 0).val = 0; omega) h1 h2

end Cert.GatesProof

end
-- ==== Proof.GatesRef.lean ====
/-
  The reference of the call `gates`, at the exact values, at an index.
-/
module

public import proofs.«01_k».proof.Proof.Gen.GatesRefIdeal.Run
public import proofs.«01_k».proof.Proof.GatesStep

@[expose] public section

set_option maxRecDepth 16384

noncomputable section

open Idealize.ShloMosaic Idealize.ShloMosaic.TcCoe Idealize.SL.Sem
open scoped BigOperators

namespace Cert.GatesProof

open Cert.GatesRefIdeal Cert.GatesRefIdeal.Gen

variable (a b : Vec Ideal S80x8x128 .f32) (al d : Vec Ideal S8x128 .f32) (s : Vec Ideal S80x8x128 .f32)

/-- The gate's input with its bias. -/
def refX : FVec Ideal S80x8x128 .f32 :=
  addf a (broadcastInDim S80x8x128 ![0, 1, 2] bcast_S1x8x128_S80x8x128_0_1_2 (broadcastInDim S1x8x128 ![1, 2] bcast_S8x128_S1x8x128_1_2 d))

/-- The decay's logarithm. -/
def refLog : FVec Ideal S80x8x128 .f32 :=
  mulf (broadcastInDim S80x8x128 ![0, 1, 2] bcast_S1x8x128_S80x8x128_0_1_2 (broadcastInDim S1x8x128 ![1, 2] bcast_S8x128_S1x8x128_1_2 (Host.negf (Host.exp al))))
    (select (cmpf .une (subf (refX a d) (broadcastInDim S80x8x128 ![] bcast_S_S80x8x128 (constant S_ .f32 0x00000000#32)))
        (subf (refX a d) (broadcastInDim S80x8x128 ![] bcast_S_S80x8x128 (constant S_ .f32 0x00000000#32))))
      (addf (refX a d) (broadcastInDim S80x8x128 ![] bcast_S_S80x8x128 (constant S_ .f32 0x00000000#32)))
      (addf (maximumf (refX a d) (broadcastInDim S80x8x128 ![] bcast_S_S80x8x128 (constant S_ .f32 0x00000000#32)))
        (Host.log1p (Host.exp (Host.negf (Host.absf (subf (refX a d) (broadcastInDim S80x8x128 ![] bcast_S_S80x8x128 (constant S_ .f32 0x00000000#32)))))))))

/-- The running sums, by halves. -/
def refG : FVec Ideal S80x8x2x64 .f32 :=
  Host.reduceWindowAdd ![1, 1, 1, 64] ![1, 1, 1, 1] ![0, 0, 0, 63] ![0, 0, 0, 0] (shapeCast _ (refLog a al d) shapeCasts_S80x8x128_S80x8x2x64)
    (broadcastInDim S_ ![] bcast_S_S_ (constant S_ .f32 0x00000000#32))
    reduceWindows_S80x8x2x64_S80x8x2x64_w1s1p0_0_w1s1p0_0_w1s1p0_0_w64s1p63_0 h_S_

/-- The write strength. -/
def refBeta : FVec Ideal S80x8x128 .f32 :=
  Host.divf (broadcastInDim S80x8x128 ![] bcast_S_S80x8x128 (constant S_ .f32 0x3F800000#32)) (addf (broadcastInDim S80x8x128 ![] bcast_S_S80x8x128 (constant S_ .f32 0x3F800000#32)) (Host.exp (Host.negf b)))

/-- The exponential of the running sums. -/
def refE : FVec Ideal S80x8x128 .f32 := shapeCast S80x8x128 (Host.exp (refG a al d)) shapeCasts_S80x8x2x64_S80x8x128

/-- The running sums' last lanes, over all lanes of their halves. -/
def refGL : FVec Ideal S80x8x2x64 .f32 :=
  broadcastInDim S80x8x2x64 ![0, 1, 2, 3] bcast_S80x8x2x1_S80x8x2x64_0_1_2_3 (extractStridedSlice S80x8x2x1 ![0, 0, 0, 63] (refG a al d) slices_S80x8x2x64_S80x8x2x1_0_0_0_63)

/-- The table. -/
def refCols : FVec Ideal S80x128x128 .f32 :=
  transpose S80x128x128 [0, 2, 1] (pad S80x128x128 ![0, 0, 0] ![0, 56, 0] ![0, 0, 0] ((concatenate S80x72x128 1 [
      ⟨S80x8x128, ((refBeta b))⟩,
      ⟨S80x8x128, ((shapeCast _ (refG a al d) shapeCasts_S80x8x2x64_S80x8x128))⟩,
      ⟨S80x8x128, ((refE a al d))⟩,
      ⟨S80x8x128, ((shapeCast _ (Host.exp (subf (refGL a al d) (refG a al d))) shapeCasts_S80x8x2x64_S80x8x128))⟩,
      ⟨S80x8x128, ((mulf (refBeta b) (refE a al d)))⟩,
      ⟨S80x8x128, ((mulf (mulf (refBeta b) (refE a al d)) s))⟩,
      ⟨S80x8x128, ((mulf (refE a al d) s))⟩,
      ⟨S80x8x128, ((shapeCast _ (Host.exp (refGL a al d)) shapeCasts_S80x8x2x64_S80x8x128))⟩,
      ⟨S80x8x128, (s)⟩] concatenates_S80x8x128_S80x8x128_S80x8x128_S80x8x128_S80x8x128_S80x8x128_S80x8x128_S80x8x128_S80x8x128_S80x72x128_d1)) (sitofp .f32 (constantI S_ 32 0#32)) pads_S80x72x128_S80x128x128_000_0560_000 h_S_) transposes_S80x128x128_S80x128x128_0_2_1

theorem refLog_apply (n : Fin 80) (h : Fin 8) (k : Fin 128) :
    refLog a al d (ix3 n h k) = gLog (0 - Ideal.exp (al (ix2 h k))) (a (ix3 n h k)) (d (ix2 h k)) := by
  unfold gLog
  pointwise [refLog, refX]
  simp only [ne_eq, not_true_eq_false, if_false, zero_sub]

theorem refG_apply (n : Fin 80) (h : Fin 8) (p : Fin 2) (l : Fin 64) (c : Fin 128) (hp : p.val = c.val / 64) (hl : l.val = c.val % 64) :
    refG a al d (ix4 n h p l) = run (fun k => gLog (0 - Ideal.exp (al (ix2 h k))) (a (ix3 n h k)) (d (ix2 h k))) c := by
  unfold refG
  rw [← half_eq_run]
  refine (window_apply _ _ _ _ (fun i => ?_) n h p l).trans (Finset.sum_congr rfl fun k _ => ?_)
  · pointwise
  · refine if_congr (by rw [hl]) ?_ rfl
    pointwise
    rw [refLog_apply]
    simp only [hp]

/-- The quantity the running sums are of. -/
abbrev gl (n : Fin 80) (h : Fin 8) (k : Fin 128) : EReal := gLog (0 - Ideal.exp (al (ix2 h k))) (a (ix3 n h k)) (d (ix2 h k))

theorem refG_lane (n : Fin 80) (h : Fin 8) (c : Fin 128) (e1 : c.val / 64 < 2) (e2 : c.val % 64 < 64) :
    refG a al d (ix4 n h ⟨c.val / 64, e1⟩ ⟨c.val % 64, e2⟩) = run (gl a al d n h) c := refG_apply a al d n h _ _ c rfl rfl

theorem refG_last (n : Fin 80) (h : Fin 8) (c : Fin 128) (e1 : c.val / 64 < 2) :
    refG a al d (ix4 n h ⟨c.val / 64, e1⟩ 63) = run (gl a al d n h) (lastOf c) :=
  refG_apply a al d n h _ _ (lastOf c) (by show c.val / 64 = (c.val / 64 * 64 + 63) / 64; omega)
    (by show 63 = (c.val / 64 * 64 + 63) % 64; omega)

/-- The reference's running sums at an index. -/
theorem refSums_apply (n : Fin 80) (h : Fin 8) (c : Fin 128) :
    shapeCast S80x8x128 (refG a al d) shapeCasts_S80x8x2x64_S80x8x128 (ix3 n h c) = run (gl a al d n h) c := by
  pointwise
  exact refG_lane a al d n h c _ _

/-- The reference's table at an index. -/
theorem refCols_apply (n : Fin 80) (p q : Fin 128) :
    refCols a b al d s (ix3 n p q)
      = cols (fun h l => bet (b (ix3 n h l))) (fun h l => run (gl a al d n h) l) (fun h l => s (ix3 n h l)) p q := by
  pointwise [refCols, refBeta, refE, refGL]
  have hz : (FloatOps.sitofp FTy.f32 0#32 : Ideal .f32) = 0 := by
    show (((0#32 : BitVec 32).toInt : ℝ) : EReal) = 0
    simp
  simp only [refG_lane, refG_last, hz]
  unfold cols bet
  simp only [zero_sub]
  by_cases hq : q.val < 72
  · rw [dif_pos hq]
    repeat' refine dite_congr rfl (fun _ => ?_) (fun _ => ?_)
    all_goals first | rfl | skip
    rw [dif_pos (by omega)]
  · rw [dif_neg hq]
    iterate 9 rw [dif_neg (by omega)]

theorem res_eq (m : (ℓ : Loc nD τ sig) → Buf (Elt Ideal) ℓ) (c : Dev nD) : Cert.GatesRefIdeal.Value.res_out0 m c
    = refCols (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Cert.GatesRefIdeal.Value.res_out0 Cert.GatesRefIdeal.Value.res_main_v32
  rfl

end Cert.GatesProof

end
-- ==== Proof.GatesValue.lean ====
/-
  The call `gates`, at the exact values: what its run leaves in its two results, that the reference's run leaves the same, and the
  reference's frame. A grid point holds eight chunks of 2 × 64 lanes for each of eight heads.
-/
module

public import proofs.«01_k».proof.Defs
public import proofs.«01_k».proof.Proof.Gen.GatesIdeal.Value
public import proofs.«01_k».proof.Proof.GatesRef
public import Idealize.ShloMosaic.Lib.Quiescent

@[expose] public section

set_option maxRecDepth 16384

noncomputable section

open Idealize.ShloMosaic Idealize.ShloMosaic.TcCoe Idealize.SL.Sem
open Idealize.ShloMosaic.Pipeline (Dat)
open scoped BigOperators

namespace Cert.GatesProof

open Cert.GatesIdeal Cert.GatesIdeal.Gen

variable (m : (ℓ : Loc nD τ sig) → Buf (Elt Ideal) ℓ)

/-- Where the windows stand at a point. -/
theorem idx : ∀ t : Fin cfg0.N, (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- Chunk `r` of block `t`. -/
def at' (t : Fin cfg0.N) (r : Fin 8) : Fin 80 := ⟨t.val * 8 + r.val, by
  have ht : t.val < 10 := t.isLt
  have := r.isLt; omega⟩

/-- Every chunk is a chunk of a block. -/
theorem exists_at (r : Fin 80) : ∃ (t : Fin cfg0.N) (q : Fin 8), at' t q = r := by
  have hr := r.isLt
  refine ⟨⟨r.val / 8, by show r.val / 8 < 10; omega⟩, ⟨r.val % 8, by omega⟩, Fin.ext ?_⟩
  show r.val / 8 * 8 + r.val % 8 = r.val
  omega

theorem iblk0_apply (c : Dev nD) (t : Fin cfg0.N) (p q : Fin 8) (r : Fin 128) :
    iblk m c 0 t (ix3 p q r) = m ((c : Thread nD τ).loc main_arg0) (ix3 (at' t p) q r) := by
  rw [← V_main_arg0 m c]
  show V m c main_arg0 (((cfg0.win 0).blk t).view.emb (ix3 p q r)) = _
  obtain ⟨⟨e0, e1, e2⟩, -⟩ := idx t
  refine congrArg _ (funext fun a => Fin.ext ?_)
  match a with
  | ⟨0, _⟩ => show win0_0.index t (0 : Fin 3) * 8 + 1 * p.val = t.val * 8 + p.val; omega
  | ⟨1, _⟩ => show win0_0.index t (1 : Fin 3) * 8 + 1 * q.val = q.val; omega
  | ⟨2, _⟩ => show win0_0.index t (2 : Fin 3) * 128 + 1 * r.val = r.val; omega

theorem iblk1_apply (c : Dev nD) (t : Fin cfg0.N) (p q : Fin 8) (r : Fin 128) :
    iblk m c 1 t (ix3 p q r) = m ((c : Thread nD τ).loc main_arg1) (ix3 (at' t p) q r) := by
  rw [← V_main_arg1 m c]
  show V m c main_arg1 (((cfg0.win 1).blk t).view.emb (ix3 p q r)) = _
  obtain ⟨-, ⟨e0, e1, e2⟩, -⟩ := idx t
  refine congrArg _ (funext fun a => Fin.ext ?_)
  match a with
  | ⟨0, _⟩ => show win0_1.index t (0 : Fin 3) * 8 + 1 * p.val = t.val * 8 + p.val; omega
  | ⟨1, _⟩ => show win0_1.index t (1 : Fin 3) * 8 + 1 * q.val = q.val; omega
  | ⟨2, _⟩ => show win0_1.index t (2 : Fin 3) * 128 + 1 * r.val = r.val; omega

theorem iblk2_apply (c : Dev nD) (t : Fin cfg0.N) (q : Fin 8) (r : Fin 128) :
    iblk m c 2 t (ix2 q r) = m ((c : Thread nD τ).loc main_arg2) (ix2 q r) := by
  rw [← V_main_arg2 m c]
  show V m c main_arg2 (((cfg0.win 2).blk t).view.emb (ix2 q r)) = _
  obtain ⟨-, -, ⟨e0, e1⟩, -⟩ := idx t
  refine congrArg _ (funext fun a => Fin.ext ?_)
  match a with
  | ⟨0, _⟩ => show win0_2.index t (0 : Fin 2) * 8 + 1 * q.val = q.val; omega
  | ⟨1, _⟩ => show win0_2.index t (1 : Fin 2) * 128 + 1 * r.val = r.val; omega

theorem iblk3_apply (c : Dev nD) (t : Fin cfg0.N) (q : Fin 8) (r : Fin 128) :
    iblk m c 3 t (ix2 q r) = m ((c : Thread nD τ).loc main_arg3) (ix2 q r) := by
  rw [← V_main_arg3 m c]
  show V m c main_arg3 (((cfg0.win 3).blk t).view.emb (ix2 q r)) = _
  obtain ⟨-, -, -, ⟨e0, e1⟩, -⟩ := idx t
  refine congrArg _ (funext fun a => Fin.ext ?_)
  match a with
  | ⟨0, _⟩ => show win0_3.index t (0 : Fin 2) * 8 + 1 * q.val = q.val; omega
  | ⟨1, _⟩ => show win0_3.index t (1 : Fin 2) * 128 + 1 * r.val = r.val; omega

theorem iblk4_apply (c : Dev nD) (t : Fin cfg0.N) (p q : Fin 8) (r : Fin 128) :
    iblk m c 4 t (ix3 p q r) = m ((c : Thread nD τ).loc main_arg4) (ix3 (at' t p) q r) := by
  rw [← V_main_arg4 m c]
  show V m c main_arg4 (((cfg0.win 4).blk t).view.emb (ix3 p q r)) = _
  obtain ⟨-, -, -, -, ⟨e0, e1, e2⟩, -⟩ := idx t
  refine congrArg _ (funext fun a => Fin.ext ?_)
  match a with
  | ⟨0, _⟩ => show win0_4.index t (0 : Fin 3) * 8 + 1 * p.val = t.val * 8 + p.val; omega
  | ⟨1, _⟩ => show win0_4.index t (1 : Fin 3) * 8 + 1 * q.val = q.val; omega
  | ⟨2, _⟩ => show win0_4.index t (2 : Fin 3) * 128 + 1 * r.val = r.val; omega

theorem emb5 (t : Fin cfg0.N) (p : Fin 8) (q r : Fin 128) :
    ((cfg0.win 5).blk t).view.emb (ix3 p q r) = ix3 (at' t p) q r := by
  obtain ⟨-, -, -, -, -, ⟨e0, e1, e2⟩, -⟩ := idx t
  funext a; apply Fin.ext
  match a with
  | ⟨0, _⟩ => show win0_5.index t (0 : Fin 3) * 8 + 1 * p.val = t.val * 8 + p.val; omega
  | ⟨1, _⟩ => show win0_5.index t (1 : Fin 3) * 128 + 1 * q.val = q.val; omega
  | ⟨2, _⟩ => show win0_5.index t (2 : Fin 3) * 128 + 1 * r.val = r.val; omega

theorem emb6 (t : Fin cfg0.N) (p q : Fin 8) (r : Fin 128) :
    ((cfg0.win 6).blk t).view.emb (ix3 p q r) = ix3 (at' t p) q r := by
  obtain ⟨-, -, -, -, -, -, e0, e1, e2⟩ := idx t
  funext a; apply Fin.ext
  match a with
  | ⟨0, _⟩ => show win0_6.index t (0 : Fin 3) * 8 + 1 * p.val = t.val * 8 + p.val; omega
  | ⟨1, _⟩ => show win0_6.index t (1 : Fin 3) * 8 + 1 * q.val = q.val; omega
  | ⟨2, _⟩ => show win0_6.index t (2 : Fin 3) * 128 + 1 * r.val = r.val; omega

/-! ## The results -/

theorem final5 (c : Dev nD) (n : Fin 80) (p q : Fin 128) : (dats m 0 c).arrAt 5 cfg0.N (ix3 n p q)
    = cols (fun h l => bet (m ((c : Thread nD τ).loc main_arg1) (ix3 n h l)))
        (fun h l => run (gl (m ((c : Thread nD τ).loc main_arg0)) (m ((c : Thread nD τ).loc main_arg2)) (m ((c : Thread nD τ).loc main_arg3)) n h) l)
        (fun h l => m ((c : Thread nD τ).loc main_arg4) (ix3 n h l)) p q := by
  obtain ⟨t, r, rfl⟩ := exists_at n
  have h := congrFun (Value.blocks5 m c t (flush0_5 t)) (ix3 r p q)
  rw [Value.flushed5] at h
  have h' : (dats m 0 c).arrAt 5 cfg0.N (((cfg0.win 5).blk t).view.emb (ix3 r p q))
      = out0_5 (iblk m c 0 t) (iblk m c 1 t) (iblk m c 2 t) (iblk m c 3 t) (iblk m c 4 t) (ix3 r p q) := h
  rw [emb5] at h'
  rw [h', out5_apply]
  simp only [iblk0_apply, iblk1_apply, iblk2_apply, iblk3_apply, iblk4_apply, ix3_0, ix3_1, ix3_2]

theorem final6 (c : Dev nD) (n : Fin 80) (p : Fin 8) (q : Fin 128) : (dats m 0 c).arrAt 6 cfg0.N (ix3 n p q)
    = run (gl (m ((c : Thread nD τ).loc main_arg0)) (m ((c : Thread nD τ).loc main_arg2)) (m ((c : Thread nD τ).loc main_arg3)) n p) q := by
  obtain ⟨t, r, rfl⟩ := exists_at n
  have h := congrFun (Value.blocks6 m c t (flush0_6 t)) (ix3 r p q)
  rw [Value.flushed6] at h
  have h' : (dats m 0 c).arrAt 6 cfg0.N (((cfg0.win 6).blk t).view.emb (ix3 r p q))
      = out0_6 (iblk m c 0 t) (iblk m c 1 t) (iblk m c 2 t) (iblk m c 3 t) (iblk m c 4 t) (ix3 r p q) := h
  rw [emb6] at h'
  rw [h', out6_apply]
  simp only [iblk0_apply, iblk2_apply, iblk3_apply, ix3_0, ix3_1, ix3_2]

end Cert.GatesProof

namespace Cert.Proof

open Cert.GatesProof

/-- The call `gates` and its reference leave equal results. -/
theorem gates_algebraic : @Cert.algebraic_GatesIdeal_GatesRefIdeal Cert.GatesIdeal.Gen.facts Cert.GatesRefIdeal.Gen.facts := by
  unfold Cert.algebraic_GatesIdeal_GatesRefIdeal
  intro m g m' g' _ hagree
  refine ⟨fun c => (Cert.GatesIdeal.Gen.dats m 0 c).arrAt 5 Cert.GatesIdeal.cfg0.N,
    fun c => (Cert.GatesIdeal.Gen.dats m 0 c).arrAt 6 Cert.GatesIdeal.cfg0.N, Cert.GatesIdeal.Value.run_blocks m g, ?_⟩
  refine (θ_run _ _ _).mono (fun r h c => ?_) (Cert.GatesRefIdeal.Value.run m' g')
  obtain ⟨h5, h6, h7⟩ := h c
  obtain ⟨a0, a1, a2, a3, a4⟩ := hagree c
  refine ⟨h5.trans ?_, h6.trans ?_, h7⟩
  · refine (res_eq m' c).trans ?_
    rw [a0, a1, a2, a3, a4]
    funext j
    obtain ⟨n, p, q, rfl⟩ : ∃ n p q, j = ix3 n p q := ⟨_, _, _, eq_ix3 j⟩
    exact (refCols_apply _ _ _ _ _ n p q).trans (final5 m c n p q).symm
  · rw [a0, a2, a3]
    funext j
    obtain ⟨n, p, q, rfl⟩ : ∃ n p q, j = ix3 n p q := ⟨_, _, _, eq_ix3 j⟩
    exact (refSums_apply _ _ _ n p q).trans (final6 m c n p q).symm

/-- The reference of the call `gates` runs, leaves its arguments unchanged and every counter at zero. -/
theorem gatesRef_frame : @Cert.quiescent_GatesRefIdeal Cert.GatesRefIdeal.Gen.facts := by
  unfold Cert.quiescent_GatesRefIdeal
  intro m g _
  exact (θ_run _ _ _).mono (fun r h => ⟨fun c => (h c).2.2, sem_eq_zero_of_no_sems rfl r.2⟩) (Cert.GatesRefIdeal.Value.run m g)

end Cert.Proof

end
-- ==== Proof.lean ====
/-
  The certificate: for each call, that its programs run without fault and end with their arguments unchanged, that
  the exact program is the printed one with its arithmetic made exact, and that it leaves what its reference leaves.
-/
module

public import proofs.«01_k».proof.Defs
public import proofs.«01_k».proof.Proof.Gen.Dx.Frame
public import proofs.«01_k».proof.Proof.Gen.DxIdeal.Frame
public import proofs.«01_k».proof.Proof.Gen.DxRefIdeal.Frame
public import proofs.«01_k».proof.Proof.Gen.Dyn.Frame
public import proofs.«01_k».proof.Proof.Gen.DynIdeal.Frame
public import proofs.«01_k».proof.Proof.Gen.DynRefIdeal.Frame
public import proofs.«01_k».proof.Proof.Gen.DwOut.Frame
public import proofs.«01_k».proof.Proof.Gen.DwOutIdeal.Frame
public import proofs.«01_k».proof.Proof.Gen.DwOutRefIdeal.Frame
public import proofs.«01_k».proof.Proof.Gen.DwQkv.Frame
public import proofs.«01_k».proof.Proof.Gen.DwQkvIdeal.Frame
public import proofs.«01_k».proof.Proof.Gen.DwQkvRefIdeal.Frame
public import proofs.«01_k».proof.Proof.Gen.Pre_dy_finite
public import proofs.«01_k».proof.Proof.Gen.Pre_y_maxima
public import proofs.«01_k».proof.Proof.Gen.Pre_dp_maxima
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.DxValue
public import proofs.«01_k».proof.Proof.DynValue
public import proofs.«01_k».proof.Proof.DwOutValue
public import proofs.«01_k».proof.Proof.DwQkvValue
public import proofs.«01_k».proof.Proof.GatesValue

@[expose] public section

noncomputable section

namespace Cert.Proof

/-- Everything claimed. -/
theorem claim : Cert.Claim :=
  ⟨Cert.Dx.Gen.facts,
    Cert.DxIdeal.Gen.facts,
    Cert.DxRefIdeal.Gen.facts,
    Cert.Dyn.Gen.facts,
    Cert.DynIdeal.Gen.facts,
    Cert.DynRefIdeal.Gen.facts,
    Cert.DwOut.Gen.facts,
    Cert.DwOutIdeal.Gen.facts,
    Cert.DwOutRefIdeal.Gen.facts,
    Cert.DwQkv.Gen.facts,
    Cert.DwQkvIdeal.Gen.facts,
    Cert.DwQkvRefIdeal.Gen.facts,
    Cert.Gates.Gen.facts,
    Cert.GatesIdeal.Gen.facts,
    Cert.GatesRefIdeal.Gen.facts,
    Cert.Pre_dy_finite.Gen.facts,
    Cert.Pre_y_maxima.Gen.facts,
    Cert.Pre_dp_maxima.Gen.facts,
    fun m ρ _ => Cert.Dx.Gen.frame m ρ,
    fun m ρ _ => Cert.DxIdeal.Gen.frame m ρ,
    fun m ρ _ => Cert.DxRefIdeal.Gen.frame m ρ,
    fun m ρ _ => Cert.Dyn.Gen.frame m ρ,
    fun m ρ _ => Cert.DynIdeal.Gen.frame m ρ,
    fun m ρ _ => Cert.DynIdeal.Gen.frame m ρ,
    fun m ρ _ => Cert.DynRefIdeal.Gen.frame m ρ,
    fun m ρ _ => Cert.DynRefIdeal.Gen.frame m ρ,
    fun m ρ _ => Cert.DwOut.Gen.frame m ρ,
    fun m ρ _ => Cert.DwOutIdeal.Gen.frame m ρ,
    fun m ρ _ => Cert.DwOutIdeal.Gen.frame m ρ,
    fun m ρ _ => Cert.DwOutRefIdeal.Gen.frame m ρ,
    fun m ρ _ => Cert.DwOutRefIdeal.Gen.frame m ρ,
    fun m ρ _ => Cert.DwQkv.Gen.frame m ρ,
    fun m ρ _ => Cert.DwQkvIdeal.Gen.frame m ρ,
    fun m ρ _ => Cert.DwQkvIdeal.Gen.frame m ρ,
    fun m ρ _ => Cert.DwQkvRefIdeal.Gen.frame m ρ,
    fun m ρ _ => Cert.DwQkvRefIdeal.Gen.frame m ρ,
    fun m ρ _ => Cert.Gates.Gen.frame m ρ,
    fun m ρ _ => Cert.GatesIdeal.Gen.frame m ρ,
    gatesRef_frame,
    trivial,
    dx_algebraic,
    trivial,
    dyn_algebraic,
    trivial,
    dwOut_algebraic,
    trivial,
    dwQkv_algebraic,
    trivial,
    gates_algebraic⟩

end Cert.Proof

end
